-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 128, 16, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 16, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x1024 : Shape := ⟨2, ![512, 1024]⟩
abbrev S2x128x4x64 : Shape := ⟨4, ![2, 128, 4, 64]⟩
abbrev S1024x512 : Shape := ⟨2, ![1024, 512]⟩
abbrev S_ : Shape := ⟨0, ![]⟩
abbrev S512x256 : Shape := ⟨2, ![512, 256]⟩
abbrev S2x128x256 : Shape := ⟨3, ![2, 128, 256]⟩
abbrev S2x4x64x128 : Shape := ⟨4, ![2, 4, 64, 128]⟩
abbrev S2x128x1024 : Shape := ⟨3, ![2, 128, 1024]⟩
abbrev S256x256 : Shape := ⟨2, ![256, 256]⟩
abbrev S4x2 : Shape := ⟨2, ![4, 2]⟩
abbrev S128x128 : Shape := ⟨2, ![128, 128]⟩
abbrev S1x128x256 : Shape := ⟨3, ![1, 128, 256]⟩
abbrev S128x256 : Shape := ⟨2, ![128, 256]⟩
abbrev S128x64 : Shape := ⟨2, ![128, 64]⟩
abbrev S1x1x64x128 : Shape := ⟨4, ![1, 1, 64, 128]⟩
abbrev S64x128 : Shape := ⟨2, ![64, 128]⟩
abbrev S128 : Shape := ⟨1, ![128]⟩
abbrev S128x1 : Shape := ⟨2, ![128, 1]⟩
abbrev S1x1 : Shape := ⟨2, ![1, 1]⟩

abbrev nBuf : Space → Nat
  | .hbm => 26
  | .vmem => 5
  | .smem => 0
  | _ => 0

abbrev bufTy : (tb : Table) → Fin (tcTables nBuf tb) → BufTy
  | .hbm, ⟨0, _⟩ => ⟨S2x128x512, .bf16⟩
  | .hbm, ⟨1, _⟩ => ⟨S512x1024, .bf16⟩
  | .hbm, ⟨2, _⟩ => ⟨S2x128x4x64, .bf16⟩
  | .hbm, ⟨3, _⟩ => ⟨S2x128x4x64, .bf16⟩
  | .hbm, ⟨4, _⟩ => ⟨S1024x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .bf16⟩
  | .hbm, ⟨20, _⟩ => ⟨S2x128x256, .f32⟩
  | .hbm, ⟨21, _⟩ => ⟨S2x128x256, .bf16⟩
  | .hbm, ⟨22, _⟩ => ⟨S2x4x64x128, .bf16⟩
  | .hbm, ⟨23, _⟩ => ⟨S2x4x64x128, .bf16⟩
  | .hbm, ⟨24, _⟩ => ⟨S2x128x1024, .bf16⟩
  | .hbm, ⟨25, _⟩ => ⟨S2x128x512, .f32⟩
  | .local _ .vmem, ⟨0, _⟩ => ⟨S2x128x256, .bf16⟩
  | .local _ .vmem, ⟨1, _⟩ => ⟨S2x4x64x128, .bf16⟩
  | .local _ .vmem, ⟨2, _⟩ => ⟨S2x4x64x128, .bf16⟩
  | .local _ .vmem, ⟨3, _⟩ => ⟨S2x128x1024, .bf16⟩
  | .local _ .vmem, ⟨4, _⟩ => ⟨S256x256, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) : Fin 3 → Nat :=
  let c0_85 : Index := 0#32
  let c0_86 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v89 : BitVec 32 := Scalar.muli v2 c256_i32
  let v193 : Index := Scalar.indexCast v89
  ![0, 0, v193.toNat]
def k0_dev1 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_87 : BitVec 32 := 1#32
  let v197 : BitVec 32 := Scalar.addi v2 c1_i32_87
  let c4_i32_88 : BitVec 32 := 4#32
  let v198 : BitVec 32 := Scalar.remsi v197 c4_i32_88
  let c1_i32_90 : BitVec 32 := 1#32
  let v199 : BitVec 32 := Scalar.muli v198 c1_i32_90
  let v200 : BitVec 32 := Scalar.addi c0_i32_91 v199
  v200.toNat
def k0_dev2 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v201 : BitVec 32 := Scalar.addi v2 c2_i32
  let c4_i32_92 : BitVec 32 := 4#32
  let v202 : BitVec 32 := Scalar.remsi v201 c4_i32_92
  let c1_i32_94 : BitVec 32 := 1#32
  let v203 : BitVec 32 := Scalar.muli v202 c1_i32_94
  let v204 : BitVec 32 := Scalar.addi c0_i32_95 v203
  v204.toNat
def k0_dev3 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v205 : BitVec 32 := Scalar.addi v2 c3_i32
  let c4_i32_96 : BitVec 32 := 4#32
  let v206 : BitVec 32 := Scalar.remsi v205 c4_i32_96
  let c1_i32_98 : BitVec 32 := 1#32
  let v207 : BitVec 32 := Scalar.muli v206 c1_i32_98
  let v208 : BitVec 32 := Scalar.addi c0_i32_99 v207
  v208.toNat
def k0_off2 (d0 : Dev nD) : Fin 3 → Nat :=
  let c0_i32_103 : BitVec 32 := 0#32
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v89 : BitVec 32 := Scalar.muli v2 c256_i32
  ![0, 0, v89.toNat]
def k0_dev4 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_101 : BitVec 32 := 1#32
  let v209 : BitVec 32 := Scalar.addi v2 c1_i32_101
  let c4_i32_102 : BitVec 32 := 4#32
  let v210 : BitVec 32 := Scalar.remsi v209 c4_i32_102
  let c1_i32_108 : BitVec 32 := 1#32
  let v211 : BitVec 32 := Scalar.muli v210 c1_i32_108
  let v212 : BitVec 32 := Scalar.addi c0_i32_109 v211
  v212.toNat
def k0_dev5 (d0 : Dev nD) : Nat :=
  let c0_i32_121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_113 : BitVec 32 := 2#32
  let v220 : BitVec 32 := Scalar.addi v2 c2_i32_113
  let c4_i32_114 : BitVec 32 := 4#32
  let v221 : BitVec 32 := Scalar.remsi v220 c4_i32_114
  let c1_i32_120 : BitVec 32 := 1#32
  let v222 : BitVec 32 := Scalar.muli v221 c1_i32_120
  let v223 : BitVec 32 := Scalar.addi c0_i32_121 v222
  v223.toNat
def k0_dev6 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_125 : BitVec 32 := 3#32
  let v231 : BitVec 32 := Scalar.addi v2 c3_i32_125
  let c4_i32_126 : BitVec 32 := 4#32
  let v232 : BitVec 32 := Scalar.remsi v231 c4_i32_126
  let c1_i32_132 : BitVec 32 := 1#32
  let v233 : BitVec 32 := Scalar.muli v232 c1_i32_132
  let v234 : BitVec 32 := Scalar.addi c0_i32_133 v233
  v234.toNat
def k0_off3 (d0 : Dev nD) : Fin 3 → Nat :=
  let c1_206 : Index := 1#32
  let c0_207 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v89 : BitVec 32 := Scalar.muli v2 c256_i32
  let v345 : Index := Scalar.indexCast v89
  ![1, 0, v345.toNat]
def k0_off4 (d0 : Dev nD) : Fin 3 → Nat :=
  let c1_i32_210 : BitVec 32 := 1#32
  let c0_i32_217 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v89 : BitVec 32 := Scalar.muli v2 c256_i32
  ![1, 0, v89.toNat]
def k0_dev7 (d0 : Dev nD) : Nat :=
  let c0_i32_216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_208 : BitVec 32 := 1#32
  let v349 : BitVec 32 := Scalar.addi v2 c1_i32_208
  let c4_i32_209 : BitVec 32 := 4#32
  let v350 : BitVec 32 := Scalar.remsi v349 c4_i32_209
  let c1_i32_215 : BitVec 32 := 1#32
  let v351 : BitVec 32 := Scalar.muli v350 c1_i32_215
  let v352 : BitVec 32 := Scalar.addi c0_i32_216 v351
  v352.toNat
def k0_dev8 (d0 : Dev nD) : Nat :=
  let c0_i32_227 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_219 : BitVec 32 := 2#32
  let v360 : BitVec 32 := Scalar.addi v2 c2_i32_219
  let c4_i32_220 : BitVec 32 := 4#32
  let v361 : BitVec 32 := Scalar.remsi v360 c4_i32_220
  let c1_i32_226 : BitVec 32 := 1#32
  let v362 : BitVec 32 := Scalar.muli v361 c1_i32_226
  let v363 : BitVec 32 := Scalar.addi c0_i32_227 v362
  v363.toNat
def k0_dev9 (d0 : Dev nD) : Nat :=
  let c0_i32_239 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_231 : BitVec 32 := 3#32
  let v371 : BitVec 32 := Scalar.addi v2 c3_i32_231
  let c4_i32_232 : BitVec 32 := 4#32
  let v372 : BitVec 32 := Scalar.remsi v371 c4_i32_232
  let c1_i32_238 : BitVec 32 := 1#32
  let v373 : BitVec 32 := Scalar.muli v372 c1_i32_238
  let v374 : BitVec 32 := Scalar.addi c0_i32_239 v373
  v374.toNat
abbrev stage0_0 : Fin 1 → Memref sig .tc .vmem S2x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S2x128x1024 : Shape := ⟨3, ![2, 128, 1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x16x128x128 : Shape := ⟨4, ![2, 16, 128, 128]⟩
abbrev S1x1x128x128 : Shape := ⟨4, ![1, 1, 128, 128]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 142
  | .vmem => 0
  | .smem => 0
  | _ => 0

abbrev hbmTy0_0 (i : Nat) : BufTy := match i % 128 with
  | 0 => ⟨S2x128x512, .bf16⟩
  | 1 => ⟨S512x1024, .bf16⟩
  | 2 => ⟨S2x128x16x64, .bf16⟩
  | 3 => ⟨S2x128x16x64, .bf16⟩
  | 4 => ⟨S1024x512, .bf16⟩
  | 5 => ⟨S2x128x512, .f32⟩
  | 6 => ⟨S512x1024, .f32⟩
  | 7 => ⟨S2x128x16x64, .f32⟩
  | 8 => ⟨S2x128x16x64, .f32⟩
  | 9 => ⟨S1024x512, .f32⟩
  | 10 => ⟨S2x128x1024, .f32⟩
  | 11 => ⟨S2x128x16x64, .f32⟩
  | 12 => ⟨S128, .i32⟩
  | 13 => ⟨S_, .i32⟩
  | 14 => ⟨S_, .i32⟩
  | 15 => ⟨S128, .i32⟩
  | 16 => ⟨S128, .i32⟩
  | 17 => ⟨S128, .i32⟩
  | 18 => ⟨S_, .i32⟩
  | 19 => ⟨S128, .i32⟩
  | 20 => ⟨S128, .i1⟩
  | 21 => ⟨S128, .i32⟩
  | 22 => ⟨S128, .i32⟩
  | 23 => ⟨S_, .i32⟩
  | 24 => ⟨S128, .i32⟩
  | 25 => ⟨S128, .i1⟩
  | 26 => ⟨S128, .i1⟩
  | 27 => ⟨S_, .i32⟩
  | 28 => ⟨S128, .i32⟩
  | 29 => ⟨S128, .i32⟩
  | 30 => ⟨S128, .i32⟩
  | 31 => ⟨S128x1, .i32⟩
  | 32 => ⟨S128, .i32⟩
  | 33 => ⟨S_, .i32⟩
  | 34 => ⟨S_, .i32⟩
  | 35 => ⟨S128, .i32⟩
  | 36 => ⟨S128, .i32⟩
  | 37 => ⟨S128, .i32⟩
  | 38 => ⟨S_, .i32⟩
  | 39 => ⟨S128, .i32⟩
  | 40 => ⟨S128, .i1⟩
  | 41 => ⟨S128, .i32⟩
  | 42 => ⟨S128, .i32⟩
  | 43 => ⟨S_, .i32⟩
  | 44 => ⟨S128, .i32⟩
  | 45 => ⟨S128, .i1⟩
  | 46 => ⟨S128, .i1⟩
  | 47 => ⟨S_, .i32⟩
  | 48 => ⟨S128, .i32⟩
  | 49 => ⟨S128, .i32⟩
  | 50 => ⟨S128, .i32⟩
  | 51 => ⟨S1x128, .i32⟩
  | 52 => ⟨S128x128, .i32⟩
  | 53 => ⟨S128x128, .i32⟩
  | 54 => ⟨S128x128, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x128, .i32⟩
  | 62 => ⟨S1x128, .i32⟩
  | 63 => ⟨S_, .i32⟩
  | 64 => ⟨S1x128, .i32⟩
  | 65 => ⟨S1x128, .i1⟩
  | 66 => ⟨S_, .i32⟩
  | 67 => ⟨S1x128, .i32⟩
  | 68 => ⟨S1x128, .i1⟩
  | 69 => ⟨S_, .i32⟩
  | 70 => ⟨S_, .i1⟩
  | 71 => ⟨S1x128, .i1⟩
  | 72 => ⟨S1x128, .i1⟩
  | 73 => ⟨S1x128, .i1⟩
  | 74 => ⟨S1x128, .i32⟩
  | 75 => ⟨S1x128, .i32⟩
  | 76 => ⟨S1x128, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S128x1, .i32⟩
  | 84 => ⟨S128x1, .i32⟩
  | 85 => ⟨S_, .i32⟩
  | 86 => ⟨S128x1, .i32⟩
  | 87 => ⟨S128x1, .i1⟩
  | 88 => ⟨S_, .i32⟩
  | 89 => ⟨S128x1, .i32⟩
  | 90 => ⟨S128x1, .i1⟩
  | 91 => ⟨S_, .i32⟩
  | 92 => ⟨S_, .i1⟩
  | 93 => ⟨S128x1, .i1⟩
  | 94 => ⟨S128x1, .i1⟩
  | 95 => ⟨S128x1, .i1⟩
  | 96 => ⟨S128x1, .i32⟩
  | 97 => ⟨S128x1, .i32⟩
  | 98 => ⟨S128x1, .i32⟩
  | 99 => ⟨S128x128, .i32⟩
  | 100 => ⟨S128x128, .i32⟩
  | 101 => ⟨S128x128, .i1⟩
  | 102 => ⟨S128x128, .i1⟩
  | 103 => ⟨S2x16x128x128, .f32⟩
  | 104 => ⟨S_, .f32⟩
  | 105 => ⟨S2x16x128x128, .f32⟩
  | 106 => ⟨S2x16x128x128, .f32⟩
  | 107 => ⟨S1x1x128x128, .i1⟩
  | 108 => ⟨S_, .f32⟩
  | 109 => ⟨S_, .f32⟩
  | 110 => ⟨S2x16x128x128, .i1⟩
  | 111 => ⟨S2x16x128x128, .f32⟩
  | 112 => ⟨S2x16x128x128, .f32⟩
  | 113 => ⟨S_, .f32⟩
  | 114 => ⟨S2x16x128, .f32⟩
  | 115 => ⟨S2x16x128x1, .f32⟩
  | 116 => ⟨S2x16x128x128, .f32⟩
  | 117 => ⟨S2x16x128x128, .f32⟩
  | 118 => ⟨S2x16x128x128, .f32⟩
  | 119 => ⟨S_, .i1⟩
  | 120 => ⟨S128, .i1⟩
  | 121 => ⟨S1x1x128x1, .i1⟩
  | 122 => ⟨S_, .f32⟩
  | 123 => ⟨S2x16x128, .f32⟩
  | 124 => ⟨S2x16x128x1, .f32⟩
  | 125 => ⟨S_, .f32⟩
  | 126 => ⟨S_, .f32⟩
  | 127 => ⟨S2x16x128x1, .i1⟩
  | _ => ⟨S2x128x512, .bf16⟩

abbrev hbmTy0_1 (i : Nat) : BufTy := match i % 128 with
  | 0 => ⟨S2x16x128x1, .f32⟩
  | 1 => ⟨S2x16x128x1, .f32⟩
  | 2 => ⟨S2x16x128x128, .f32⟩
  | 3 => ⟨S2x16x128x128, .f32⟩
  | 4 => ⟨S1x1x128x1, .i1⟩
  | 5 => ⟨S_, .f32⟩
  | 6 => ⟨S_, .f32⟩
  | 7 => ⟨S2x16x128x128, .i1⟩
  | 8 => ⟨S2x16x128x128, .f32⟩
  | 9 => ⟨S2x16x128x128, .f32⟩
  | 10 => ⟨S2x16x64x128, .f32⟩
  | 11 => ⟨S2x128x16x64, .f32⟩
  | 12 => ⟨S2x128x1024, .f32⟩
  | 13 => ⟨S2x128x512, .f32⟩
  | _ => ⟨S2x128x512, .bf16⟩

abbrev hbmTy (i : Nat) : BufTy := match i / 128 with
  | 0 => hbmTy0_0 i
  | 1 => hbmTy0_1 i
  | _ => ⟨S2x128x512, .bf16⟩

abbrev bufTy : (tb : Table) → Fin (tcTables nBuf tb) → BufTy
  | .hbm, ⟨i, _⟩ => hbmTy i
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Attn.lean ====
/-
  The CONTENTS that the devices exchange, as functions of the three arrays each device feeds its attention with.

  A device computes the attention of 4 heads in 2 batches: `attnHead` is one of the 8, the kernel's own operations over
  a 128 x 64 block of queries, a 64 x 128 block of (transposed) keys and one of (transposed) values. `localCtx` lays the
  eight out in the 256 x 256 scratch (batch `b` in rows `128 b ..`, head `h` in columns `64 h ..`), and `gathered` lays
  the four devices' halves out in the 2 x 128 x 1024 array that every device ends up with (device `e` in columns
  `256 e ..`).
-/
module

public import proofs.«01_k».proof.Proof.Gen.KernelIdeal
public import proofs.«01_k».proof.Proof.Gen.KernelIdeal.Skeleton
public import Idealize.ShloMosaic.Lib.PointwiseCore

@[expose] public section

set_option maxRecDepth 16384

noncomputable section

namespace Cert.GatherAttn

open Cert.KernelIdeal Cert.KernelIdeal.Gen
open Idealize.ShloMosaic

variable {F : FTy → Type} [FloatOps F]

/-! ## One head -/

/-- The mask of the kernel: which key positions a query position may read. -/
def mask : IVec S128x128 1 := k0_pay4 k0_pay1 (iota .tc S128x128 32 [1] iota_S128x128_d1_w32) 64#32 k0_pay2 k0_pay3

/-- One attention head of one batch, over its block of queries and its blocks of transposed keys and values: scores,
    scaled and masked; the softmax along the keys; the weighted values. -/
def attnHead (msk : IVec S128x128 1) (q : FVec F S128x64 .bf16) (k v : FVec F S64x128 .bf16) : FVec F S128x64 .bf16 :=
  let scores : FVec F S128x128 .f32 :=
    select msk
      (mulf (matmul dot_S128x64_S64x128_S128x128_1_0_0_1_n_n none q k (constant S128x128 .f32 0x00000000#32))
        (broadcast S128x128 (Scalar.ofBits .f32 0x3E000000#32)))
      (broadcast S128x128 (Scalar.ofBits .f32 0xCE6E6B28#32))
  let top : FVec F S128x128 .f32 :=
    broadcastTo S128x128 (shapeCast S128x1 (multiReduction .maximumf [1] S128 scores 0xFF800000#32 reduces_S128x128_S128 (.inl rfl) rfl) shapeCasts_S128_S128x1)
      broadcasts_S128x1_S128x128
  let w : FVec F S128x128 .f32 := exp (subf scores top)
  let total : FVec F S128x128 .f32 :=
    broadcastTo S128x128 (shapeCast S128x1 (multiReduction .add [1] S128 w 0x00000000#32 reduces_S128x128_S128 (.inl rfl) rfl) shapeCasts_S128_S128x1)
      broadcasts_S128x1_S128x128
  shapeCast S128x64
    (truncf .bf16 (matmul dot_S128x128_S64x128_S128x64_1_1_0_0_n_n none (truncf .bf16 (divf w total) bitsLt_bf16_f32) v (constant S128x64 .f32 0x00000000#32)) bitsLt_bf16_f32)
    shapeCasts_S128x64_S128x64

/-- The 128 x 64 block of columns `64 h ..` of a batch's 128 x 256 queries. -/
def headCols (off : Fin 2 → ℕ) (a : Vec F S1x128x256 .bf16) (hs : S128x256.Slices off S128x64) : FVec F S128x64 .bf16 :=
  extractStridedSlice S128x64 off (shapeCast S128x256 a shapeCasts_S1x128x256_S128x256) hs

/-- A loaded 1 x 1 x 64 x 128 block of keys or values as a matrix. -/
def plane (k : Vec F S1x1x64x128 .bf16) : FVec F S64x128 .bf16 := shapeCast S64x128 k shapeCasts_S1x1x64x128_S64x128

/-! ## The stored values: each of the eight stores' is `attnHead` of its loads -/

section Stores
variable (msk : IVec S128x128 1) (a : Vec F S1x128x256 .bf16) (k v : Vec F S1x1x64x128 .bf16)

/-- Batch 0, head 0. -/
theorem store00 : k0_pay6 msk a k v = attnHead msk (headCols ![0, 0] a slices_S128x256_o0_0_S128x64) (plane k) (plane v) := rfl
/-- Batch 0, head 1. -/
theorem store01 : k0_pay8 msk (k0_pay7 a k) (Scalar.ofBits .f32 0xCE6E6B28#32) v
    = attnHead msk (headCols ![0, 64] a slices_S128x256_o0_64_S128x64) (plane k) (plane v) := rfl
/-- Batch 0, head 2. -/
theorem store02 : k0_pay10 (k0_pay9 msk (k0_pay5 a) k) v
    = attnHead msk (headCols ![0, 128] a slices_S128x256_o0_128_S128x64) (plane k) (plane v) := rfl
/-- Batch 0, head 3. -/
theorem store03 : k0_pay11 msk (k0_pay5 a) k v
    = attnHead msk (headCols ![0, 192] a slices_S128x256_o0_192_S128x64) (plane k) (plane v) := rfl
/-- Batch 1, head 0. -/
theorem store10 : k0_pay16 msk (k0_pay14 a) (k0_pay15 k) v
    = attnHead msk (headCols ![0, 0] a slices_S128x256_o0_0_S128x64) (plane k) (plane v) := rfl
/-- Batch 1, head 1. -/
theorem store11 : k0_pay19 (k0_pay17 msk (k0_pay13 a) k) (k0_pay18 msk (k0_pay13 a) k) v
    = attnHead msk (headCols ![0, 64] a slices_S128x256_o0_64_S128x64) (plane k) (plane v) := rfl
/-- Batch 1, head 2. -/
theorem store12 : k0_pay20 msk (k0_pay13 a) k v
    = attnHead msk (headCols ![0, 128] a slices_S128x256_o0_128_S128x64) (plane k) (plane v) := rfl
/-- Batch 1, head 3. -/
theorem store13 : k0_pay22 msk (k0_pay21 (k0_pay13 a)) k v
    = attnHead msk (headCols ![0, 192] a slices_S128x256_o0_192_S128x64) (plane k) (plane v) := rfl

end Stores

/-! ## The layout of the heads -/

/-- Head `h` of batch `b` of a device, over its whole arrays of queries, transposed keys and transposed values. -/
def headVal (Q : FVec F S2x128x256 .bf16) (K V : FVec F S2x4x64x128 .bf16) (b : Fin 2) (h : Fin 4) : FVec F S128x64 .bf16 :=
  attnHead mask (fun i => Q (ix3 b (i 0) ⟨64 * h.val + (i 1).val, by have h1 : (i 1).val < 64 := (i 1).isLt; have := h.isLt; omega⟩))
    (fun i => K (ix4 b h (i 0) (i 1))) (fun i => V (ix4 b h (i 0) (i 1)))

/-- What a device's 256 x 256 scratch holds once its eight heads are stored: batch `b`'s head `h` at rows `128 b ..`,
    columns `64 h ..`. -/
def localCtx (Q : FVec F S2x128x256 .bf16) (K V : FVec F S2x4x64x128 .bf16) : FVec F S256x256 .bf16 := fun j =>
  headVal Q K V ⟨(j 0).val / 128, by have : (j 0).val < 256 := (j 0).isLt; omega⟩ ⟨(j 1).val / 64, by have : (j 1).val < 256 := (j 1).isLt; omega⟩
    (ix2 ⟨(j 0).val % 128, Nat.mod_lt _ (by decide)⟩ ⟨(j 1).val % 64, Nat.mod_lt _ (by decide)⟩)

/-- What every device's 2 x 128 x 1024 array holds once all halves have landed: batch `b`, row `s` of device `e`'s
    scratch at batch `b`, row `s`, columns `256 e ..`. -/
def gathered (ctx : Dev nD → FVec F S256x256 .bf16) : FVec F S2x128x1024 .bf16 := fun i =>
  ctx ⟨(i 2).val / 256, by have : (i 2).val < 1024 := (i 2).isLt; show _ < 4; omega⟩
    (ix2 ⟨128 * (i 0).val + (i 1).val, by have : (i 0).val < 2 := (i 0).isLt; have : (i 1).val < 128 := (i 1).isLt; omega⟩
      ⟨(i 2).val % 256, Nat.mod_lt _ (by decide)⟩)

/-- The gathered array at an index, by the device and the scratch index it comes from. -/
theorem gathered_at (ctx : Dev nD → FVec F S256x256 .bf16) (i : S2x128x1024.Idx) (e : Dev nD) (j : S256x256.Idx)
    (he : (i 2).val / 256 = e.val) (h0 : 128 * (i 0).val + (i 1).val = (j 0).val) (h1 : (i 2).val % 256 = (j 1).val) :
    gathered ctx i = ctx e j := by
  have hj : (ix2 ⟨128 * (i 0).val + (i 1).val, h0 ▸ (j 0).isLt⟩ ⟨(i 2).val % 256, Nat.mod_lt _ (by decide)⟩ : S256x256.Idx) = j :=
    funext fun a => match a with | 0 => Fin.ext h0 | 1 => Fin.ext h1
  have hd : (⟨(i 2).val / 256, he ▸ e.isLt⟩ : Dev nD) = e := Fin.ext he
  show ctx ⟨(i 2).val / 256, _⟩ (ix2 ⟨128 * (i 0).val + (i 1).val, _⟩ ⟨(i 2).val % 256, _⟩) = ctx e j
  rw [hd]; exact congrArg _ hj

/-- The scratch at an index, by the head it comes from. -/
theorem localCtx_at (Q : FVec F S2x128x256 .bf16) (K V : FVec F S2x4x64x128 .bf16) (j : S256x256.Idx) (b : Fin 2) (h : Fin 4) (x : S128x64.Idx)
    (h0 : (j 0).val = 128 * b.val + (x 0).val) (h1 : (j 1).val = 64 * h.val + (x 1).val) :
    localCtx Q K V j = headVal Q K V b h x := by
  have x0 : (x 0).val < 128 := (x 0).isLt
  have x1 : (x 1).val < 64 := (x 1).isLt
  have l0 : (j 0).val < 256 := (j 0).isLt
  have l1 : (j 1).val < 256 := (j 1).isLt
  have hb : (⟨(j 0).val / 128, by omega⟩ : Fin 2) = b := Fin.ext (by show (j 0).val / 128 = b.val; omega)
  have hh : (⟨(j 1).val / 64, by omega⟩ : Fin 4) = h := Fin.ext (by show (j 1).val / 64 = h.val; omega)
  have hx : (ix2 ⟨(j 0).val % 128, Nat.mod_lt _ (by decide)⟩ ⟨(j 1).val % 64, Nat.mod_lt _ (by decide)⟩ : S128x64.Idx) = x :=
    funext fun a => match a with
      | 0 => Fin.ext (by show (j 0).val % 128 = (x 0).val; omega)
      | 1 => Fin.ext (by show (j 1).val % 64 = (x 1).val; omega)
  show headVal Q K V ⟨(j 0).val / 128, _⟩ ⟨(j 1).val / 64, _⟩ (ix2 ⟨(j 0).val % 128, _⟩ ⟨(j 1).val % 64, _⟩) = _
  rw [hb, hh]; exact congrArg _ hx

end Cert.GatherAttn

end
-- ==== Proof.Proto.lean ====
/-
  The PROTOCOL of the exchange: who waits on which semaphore, who pays it, and what each payment hands over.

  Four devices; a device `c` names the others by their distance, `pe c k` the one `k + 1` further round (`k : Fin 3`).

  * The barrier semaphore of `c` is paid one unit by each other device. `pe c k`'s unit hands `c` the two blocks of
    `pe c k`'s output buffer that `c` will fill (columns `256 c ..`, batches 0 and 1), with that `pe c k` has opened the
    two receive semaphores that `c`'s copies will pay. `c` waits for all three units.
  * The send semaphore `(k, b)` of `c` is paid by `c`'s own copy of batch `b` to `pe c k`; it hands back the share of the
    scratch's half `b` that the copy read.
  * The receive semaphore `(k, b)` of `c` is paid by the copy of batch `b` from the device whose `k`th peer `c` is; it
    hands over the block of `c`'s output buffer that the copy filled, AT THE GATHERED CONTENTS.

  Each semaphore is used for one round. At its barrier wait a device still owes the six receive credits of its copies:
  receive semaphores lie above barrier semaphores.
-/
module

public import proofs.«01_k».proof.Proof.Attn
public import proofs.«01_k».proof.Proof.Gen.KernelIdeal.Launch
public import proofs.«01_k».proof.Proof.Gen.KernelIdeal.Regions
public import Idealize.ShloMosaic.Lib.Rounds
public import Idealize.ShloMosaic.Lib.Tactic

@[expose] public section

set_option maxRecDepth 16384

noncomputable section

namespace Cert.GatherAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy of the rounds, and the exchange's with three duties a round -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The peers -/

set_option backward.proofsInPublic true in
/-- The device `k + 1` further round than `c`. -/
def pe (c : Dev nD) (k : Fin 3) : Dev nD := ⟨(c.val + k.val + 1) % 4, Nat.mod_lt _ (by decide)⟩

/-- `k + 1` further and `3 - k` further again is the whole way round. -/
theorem pe_rev (c : Dev nD) (k : Fin 3) : pe (pe c k) k.rev = c := by revert c k; decide
theorem pe_rev' (c : Dev nD) (k : Fin 3) : pe (pe c k.rev) k = c := by revert c k; decide
/-- The devices are `c` and its three peers. -/
theorem univ_dev (c : Dev nD) : (Finset.univ : Finset (Dev nD)) = [c, pe c 0, pe c 1, pe c 2].toFinset := by revert c; decide
theorem nodup_dev (c : Dev nD) : [c, pe c 0, pe c 1, pe c 2].Nodup := by revert c; decide

/-- A conjunction over all devices, seen from `c`: its own conjunct and its three peers'. -/
theorem bigSep_dev {M : Type} [URA M] (c : Dev nD) (Φ : Dev nD → sProp M) :
    bigSep Finset.univ Φ = iprop(Φ c ∗ Φ (pe c 0) ∗ Φ (pe c 1) ∗ Φ (pe c 2)) := by
  rw [bigSep_eq_bigSepL_of_eq [c, pe c 0, pe c 1, pe c 2] (univ_dev c) (nodup_dev c)]
  simp only [bigSepL_cons_cons, bigSepL_singleton]
  rfl

/-- Going `k + 1` further is a permutation of the devices. -/
def shift (k : Fin 3) : Dev nD ≃ Dev nD := ⟨fun c => pe c k, fun c => pe c k.rev, fun c => pe_rev c k, fun c => pe_rev' c k⟩

/-! ## The buffers and their blocks -/

/-- The scratch of a device's own heads. -/
abbrev lM : Memref sig .tc .vmem S256x256 .bf16 := Memref.whole cc0_scratch0
/-- The output's staging buffer. -/
abbrev oM : Memref sig .tc .vmem S2x128x1024 .bf16 := Memref.whole cc0_stg3_0

/-- Where batch `b` begins in the scratch … -/
def sOff (b : Fin 2) : Fin 2 → ℕ := match b with | 0 => ![0, 0] | 1 => ![128, 0]
/-- … where device `e`'s block of batch `b` begins in the output, as the stores name it … -/
def wOff (e : Dev nD) (b : Fin 2) : Fin 3 → ℕ := match b with | 0 => k0_off1 e | 1 => k0_off3 e
/-- … and as the copies name it. -/
def dOff (e : Dev nD) (b : Fin 2) : Fin 3 → ℕ := match b with | 0 => k0_off2 e | 1 => k0_off4 e

theorem sOff_inb (b : Fin 2) : ∀ a, sOff b a + S128x256.size a ≤ S256x256.size a :=
  match b with | 0 => inb_S256x256_S128x256_0_0 | 1 => inb_S256x256_S128x256_128_0
theorem wOff_inb (e : Dev nD) (b : Fin 2) : ∀ a, wOff e b a + S1x128x256.size a ≤ S2x128x1024.size a :=
  match b with | 0 => k0_off1_inb e | 1 => k0_off3_inb e
theorem dOff_inb (e : Dev nD) (b : Fin 2) : ∀ a, dOff e b a + S1x128x256.size a ≤ S2x128x1024.size a :=
  match b with | 0 => k0_off2_inb e | 1 => k0_off4_inb e

theorem sOff_eq (b : Fin 2) : sOff b = ![128 * b.val, 0] := match b with | 0 => rfl | 1 => rfl
theorem wOff_eq (e : Dev nD) (b : Fin 2) : wOff e b = ![b.val, 0, 256 * e.val] := match b with | 0 => k0_off1_eq e | 1 => k0_off3_eq e
theorem dOff_eq (e : Dev nD) (b : Fin 2) : dOff e b = ![b.val, 0, 256 * e.val] := match b with | 0 => k0_off2_eq e | 1 => k0_off4_eq e

abbrev sRect (b : Fin 2) : Rect S256x256 := Rect.unit (s := S256x256) (sOff b) S128x256.size (sOff_inb b)
abbrev wRect (e : Dev nD) (b : Fin 2) : Rect S2x128x1024 := Rect.unit (s := S2x128x1024) (wOff e b) S1x128x256.size (wOff_inb e b)
abbrev dRect (e : Dev nD) (b : Fin 2) : Rect S2x128x1024 := Rect.unit (s := S2x128x1024) (dOff e b) S1x128x256.size (dOff_inb e b)

/-- The half of the scratch that holds batch `b`: what a copy of batch `b` reads. -/
abbrev srcM (b : Fin 2) : Memref sig .tc .vmem S128x256 .bf16 := lM.slice (sRect b) (fun _ => rfl)
/-- Batch `b`, columns `256 e ..` of the output buffer: what a copy of batch `b` from device `e` writes. -/
abbrev dstM (e : Dev nD) (b : Fin 2) : Memref sig .tc .vmem S128x256 .bf16 :=
  (oM.slice (dRect e b) (fun _ => rfl)).squeeze S128x256 squeezes_S1x128x256_S128x256

abbrev lLoc (c : Dev nD) : Loc nD τ sig := (c : Thread nD τ).loc cc0_scratch0
abbrev oLoc (c : Dev nD) : Loc nD τ sig := (c : Thread nD τ).loc cc0_stg3_0

/-- The indices of the scratch's half `b`. -/
def half (b : Fin 2) : Finset S256x256.Idx := Finset.univ.filter fun i => (i 0).val / 128 = b.val
/-- The indices of the output buffer's block of device `e`, batch `b`. -/
def blk (e : Dev nD) (b : Fin 2) : Finset S2x128x1024.Idx := Finset.univ.filter fun i => (i 0).val = b.val ∧ (i 2).val / 256 = e.val

theorem mem_half {b : Fin 2} {i : S256x256.Idx} : i ∈ half b ↔ (i 0).val / 128 = b.val := by unfold half; simp
theorem mem_blk {e : Dev nD} {b : Fin 2} {i : S2x128x1024.Idx} : i ∈ blk e b ↔ (i 0).val = b.val ∧ (i 2).val / 256 = e.val := by unfold blk; simp

theorem sRect_set (b : Fin 2) : (sRect b).set = half b := by
  ext i
  have h0 : (i 0).val < 256 := (i 0).isLt
  have h1 : (i 1).val < 256 := (i 1).isLt
  have hb := b.isLt
  rw [mem_half, Rect.mem_set_unit, sOff_eq]
  refine ⟨fun h => ?_, fun h a => ?_⟩
  · have := h 0; change 128 * b.val ≤ (i 0).val ∧ (i 0).val < 128 * b.val + 128 at this; omega
  · match a with
    | 0 => show 128 * b.val ≤ (i 0).val ∧ (i 0).val < 128 * b.val + 128; omega
    | 1 => show 0 ≤ (i 1).val ∧ (i 1).val < 0 + 256; omega

theorem unit_blk (e : Dev nD) (b : Fin 2) (off : Fin 3 → ℕ) (inb : ∀ a, off a + S1x128x256.size a ≤ S2x128x1024.size a)
    (h : off = ![b.val, 0, 256 * e.val]) : (Rect.unit (s := S2x128x1024) off S1x128x256.size inb).set = blk e b := by
  subst h
  ext i
  have h0 : (i 0).val < 2 := (i 0).isLt
  have h1 : (i 1).val < 128 := (i 1).isLt
  have h2 : (i 2).val < 1024 := (i 2).isLt
  rw [mem_blk, Rect.mem_set_unit]
  refine ⟨fun h => ?_, fun h a => ?_⟩
  · have a0 := h 0; have a2 := h 2
    change b.val ≤ (i 0).val ∧ (i 0).val < b.val + 1 at a0
    change 256 * e.val ≤ (i 2).val ∧ (i 2).val < 256 * e.val + 256 at a2
    omega
  · match a with
    | 0 => show b.val ≤ (i 0).val ∧ (i 0).val < b.val + 1; omega
    | 1 => show 0 ≤ (i 1).val ∧ (i 1).val < 0 + 128; omega
    | 2 => show 256 * e.val ≤ (i 2).val ∧ (i 2).val < 256 * e.val + 256; omega

theorem wRect_set (e : Dev nD) (b : Fin 2) : (wRect e b).set = blk e b := unit_blk e b _ _ (wOff_eq e b)
theorem dRect_set (e : Dev nD) (b : Fin 2) : (dRect e b).set = blk e b := unit_blk e b _ _ (dOff_eq e b)

/-- A copy reads its half … -/
theorem src_set (b : Fin 2) : (srcM b).view.set = half b :=
  (View.set_slice_whole (cc0_scratch0 : Ref sig .tc) (sRect b)).trans (sRect_set b)
/-- … and writes its block. -/
theorem dst_set (e : Dev nD) (b : Fin 2) : (dstM e b).view.set = blk e b :=
  (View.set_reshape _ _).trans ((View.set_slice_whole (cc0_stg3_0 : Ref sig .tc) (dRect e b)).trans (dRect_set e b))

/-! ## The contents -/

/-- Device `c`'s scratch once its eight heads are stored. -/
def ctx (c : Dev nD) : FVec F S256x256 .bf16 := localCtx (V1 m c main_v11) (V1 m c main_v12) (V1 m c main_v13)

/-- The gathered array: the same on every device. -/
def G : FVec F S2x128x1024 .bf16 := gathered (ctx m)

/-- What a copy of batch `b` from device `e` leaves, on its block, is the gathered array: whatever the block held. -/
theorem landed (e : Dev nD) (b : Fin 2) (fd : FVec F S2x128x1024 .bf16) :
    ∀ i ∈ blk e b, (dstM e b).view.write (Elt F) fd ((srcM b).view.read (Elt F) (ctx m e)) Finset.univ i = G m i := by
  intro i hi
  rw [← dst_set e b] at hi
  obtain ⟨x, -, rfl⟩ := Finset.mem_map.mp hi
  refine (View.write_emb_of_mem _ _ (Finset.mem_univ x)).trans ?_
  show ctx m e ((sRect b).emb x) = gathered (ctx m) ((dRect e b).emb (Shape.reshapeEquiv _ x))
  have h0 : (x 0).val < 128 := (x 0).isLt
  have h1 : (x 1).val < 256 := (x 1).isLt
  have hd : ∀ a, ((dRect e b).emb (Fin.cons ⟨0, Nat.one_pos⟩ x) a).val = ![b.val, 0, 256 * e.val] a + 1 * (Fin.cons (α := fun a => Fin (S1x128x256.size a)) ⟨0, Nat.one_pos⟩ x a).val :=
    fun a => congrArg (fun o : Fin 3 → ℕ => o a + 1 * (Fin.cons (α := fun a => Fin (S1x128x256.size a)) ⟨0, Nat.one_pos⟩ x a).val) (dOff_eq e b)
  have hs : ∀ a, ((sRect b).emb x a).val = ![128 * b.val, 0] a + 1 * (x a).val := fun a => congrArg (fun o : Fin 2 → ℕ => o a + 1 * (x a).val) (sOff_eq b)
  rw [Shape.reshapeEquiv_cons_one]
  refine (gathered_at _ _ e _ ?_ ?_ ?_).symm
  · rw [hd 2]; show (256 * e.val + 1 * (x 1).val) / 256 = e.val; omega
  · rw [hd 0, hd 1, hs 0]; show 128 * (b.val + 1 * 0) + (0 + 1 * (x 0).val) = 128 * b.val + 1 * (x 0).val; omega
  · rw [hd 2, hs 1]; show (256 * e.val + 1 * (x 1).val) % 256 = 0 + 1 * (x 1).val; omega

/-! ## The cells -/

/-- The runtime's barrier semaphore. -/
abbrev barS : Sem sig := (SemArray.scalar (sig.barrier 0 rfl) : Sems sig S_).sem
/-- The send semaphore of the copies of batch `b` to the peer `k`. -/
def sendS (k : Fin 3) (b : Fin 2) : DmaSem sig := ⟨6 + 2 * k.val + b.val, by have := k.isLt; have := b.isLt; show _ < 20; omega⟩
/-- The receive semaphore that a copy of batch `b` to the peer `k` pays there. -/
def recvS (k : Fin 3) (b : Fin 2) : DmaSem sig := ⟨14 + 2 * k.val + b.val, by have := k.isLt; have := b.isLt; show _ < 20; omega⟩

abbrev barCell (c : Dev nD) : GSem nD τ sig := ((c : Thread nD τ), .reg barS)
abbrev sendCell (c : Dev nD) (k : Fin 3) (b : Fin 2) : GSem nD τ sig := ((c : Thread nD τ), .dma (sendS k b))
abbrev recvCell (c : Dev nD) (k : Fin 3) (b : Fin 2) : GSem nD τ sig := ((c : Thread nD τ), .dma (recvS k b))

/-- The credit of one copy: a 128 x 256 block. -/
abbrev N : ℕ := (srcM 0).view.dmaCredit
theorem N_pos : 0 < N := View.dmaCredit_pos _ (by decide)

/-! ## What each payment hands over -/

/-- Three copies read a half of the scratch at once: the shares that they hold. -/
def shr (k : Fin 3) : PosShare TreeShare := match k with | 0 => fullShare.left | 1 => fullShare.right.left | 2 => fullShare.right.right

/-- The half `b` of device `c`'s scratch, all heads of the batch stored, at the share of the copy to the peer `k`. -/
def sendPay (c : Dev nD) (k : Fin 3) (b : Fin 2) : sProp 𝕄 := lLoc c ↦[half b]{shr k} ctx m c
/-- The block of device `c`'s output that the copy of batch `b` from the device whose peer `k` it is has filled. -/
def recvPay (c : Dev nD) (k : Fin 3) (b : Fin 2) : sProp 𝕄 := oLoc c ↦[blk (pe c k.rev) b]{fullShare} G m
/-- What the peer `k`'s unit hands device `c`: its two blocks of that peer's output, at any contents, with that the
    two receive cells its copies to that peer will pay are open. -/
def barPay (c : Dev nD) (k : Fin 3) : sProp 𝕄 :=
  iprop(((∃ f, oLoc (pe c k) ↦[blk c 0]{fullShare} f) ∗ ∃ f, oLoc (pe c k) ↦[blk c 1]{fullShare} f)
    ∗ reached ER (recvCell (pe c k) k 0) 0 ∗ reached ER (recvCell (pe c k) k 1) 0)

omit [FloatOps F] in
instance barPay_storable (c : Dev nD) (k : Fin 3) : BI.Storable (upEmb : UEmb _ 𝕄) (barPay (F := F) c k) := by unfold barPay; infer_instance
instance sendPay_storable (c : Dev nD) (k : Fin 3) (b : Fin 2) : BI.Storable (upEmb : UEmb _ 𝕄) (sendPay (F := F) m c k b) := by unfold sendPay; infer_instance
instance recvPay_storable (c : Dev nD) (k : Fin 3) (b : Fin 2) : BI.Storable (upEmb : UEmb _ 𝕄) (recvPay (F := F) m c k b) := by unfold recvPay; infer_instance

/-! ## The schedule -/

/-- The distance and the batch of a send or receive semaphore, from its number. -/
def kOf (n : ℕ) : Fin 3 := ⟨n / 2 % 3, Nat.mod_lt _ (by decide)⟩
def bOf (n : ℕ) : Fin 2 := ⟨n % 2, Nat.mod_lt _ (by decide)⟩

abbrev IsBar (s : SemLoc sig) : Prop := s = .reg barS
abbrev IsSend (s : SemLoc sig) : Prop := ∃ k b, s = .dma (sendS k b)
abbrev IsRecv (s : SemLoc sig) : Prop := ∃ k b, s = .dma (recvS k b)

/-- What the duty `d` of a semaphore of device `c` hands over. -/
def payOf (c : Dev nD) (d : Fin 3) : SemLoc sig → sProp 𝕄
  | .reg _ => barPay c d
  | .dma q => if 14 ≤ q.val then recvPay m c (kOf (q.val - 14)) (bOf (q.val - 14)) else sendPay m c (kOf (q.val - 6)) (bOf (q.val - 6))

/-- One round, round 0: a barrier cell has three duties of one unit, a send or receive cell the one duty 0 of a copy's
    credit. -/
def rd : Rounds.Schedule (GSem nD τ sig) (Fin 3) 𝕄 where
  duties g r := if r = 0 ∧ g.1.2 = .tc ∧ IsBar g.2 then Finset.univ else if r = 0 ∧ g.1.2 = .tc ∧ (IsSend g.2 ∨ IsRecv g.2) then {0} else ∅
  unitless _ := False
  amount g _ _ := if IsBar g.2 then 1 else N
  payload g _ d := payOf m g.1.1 d g.2
  amount_pos g _ _ _ := by
    by_cases h : IsBar g.2
    · rw [if_pos h]; exact Nat.one_pos
    · rw [if_neg h]; exact N_pos

instance rd_payload_storable (g : GSem nD τ sig) (r : ℕ) (d : Fin 3) : BI.Storable (upEmb : UEmb _ 𝕄) ((rd (F := F) m).payload g r d) := by
  show BI.Storable upEmb (payOf m g.1.1 d g.2)
  unfold payOf
  (repeat' split) <;> infer_instance

section Tables
variable (c : Dev nD) (k : Fin 3) (b : Fin 2)

theorem send_ne_bar : ¬ IsBar (.dma (sendS k b) : SemLoc sig) := fun h => by cases h
theorem recv_ne_bar : ¬ IsBar (.dma (recvS k b) : SemLoc sig) := fun h => by cases h

theorem duties_bar : (rd (F := F) m).duties (barCell c) 0 = Finset.univ := by dsimp only [rd]; exact if_pos ⟨rfl, rfl, rfl⟩
theorem duties_send : (rd (F := F) m).duties (sendCell c k b) 0 = {0} := by
  dsimp only [rd]; rw [if_neg (fun h => send_ne_bar k b h.2.2)]; exact if_pos ⟨rfl, rfl, .inl ⟨k, b, rfl⟩⟩
theorem duties_recv : (rd (F := F) m).duties (recvCell c k b) 0 = {0} := by
  dsimp only [rd]; rw [if_neg (fun h => recv_ne_bar k b h.2.2)]; exact if_pos ⟨rfl, rfl, .inr ⟨k, b, rfl⟩⟩
theorem duties_later (g : GSem nD τ sig) : ∀ r, 1 ≤ r → (rd (F := F) m).duties g r = ∅ :=
  fun r hr => by dsimp only [rd]; rw [if_neg fun h => by omega, if_neg fun h => by omega]

theorem amount_bar (d : Fin 3) : (rd (F := F) m).amount (barCell c) 0 d = 1 := by dsimp only [rd]; exact if_pos rfl
theorem amount_send (d : Fin 3) : (rd (F := F) m).amount (sendCell c k b) 0 d = N := by dsimp only [rd]; exact if_neg (send_ne_bar k b)
theorem amount_recv (d : Fin 3) : (rd (F := F) m).amount (recvCell c k b) 0 d = N := by dsimp only [rd]; exact if_neg (recv_ne_bar k b)

theorem expect_bar : (rd (F := F) m).expect (barCell c) 0 = 3 := by
  unfold Schedule.expect Schedule.amountOf
  rw [duties_bar, Finset.sum_congr rfl fun d _ => amount_bar m c d]; rfl
theorem expect_send : (rd (F := F) m).expect (sendCell c k b) 0 = N := by
  unfold Schedule.expect Schedule.amountOf; rw [duties_send, Finset.sum_singleton, amount_send]
theorem expect_recv : (rd (F := F) m).expect (recvCell c k b) 0 = N := by
  unfold Schedule.expect Schedule.amountOf; rw [duties_recv, Finset.sum_singleton, amount_recv]

theorem payload_bar (d : Fin 3) : (rd (F := F) m).payload (barCell c) 0 d = barPay c d := rfl
theorem payload_send (d : Fin 3) : (rd (F := F) m).payload (sendCell c k b) 0 d = sendPay m c k b := by
  fin_cases k <;> fin_cases b <;> rfl
theorem payload_recv (d : Fin 3) : (rd (F := F) m).payload (recvCell c k b) 0 d = recvPay m c k b := by
  fin_cases k <;> fin_cases b <;> rfl

/-- What a device's wait at the barrier collects: the three peers' payloads. -/
theorem rest_bar : bigSep ((rd (F := F) m).duties (barCell c) 0 \ ∅) (fun d => (rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_send : bigSep ((rd (F := F) m).duties (sendCell c k b) 0 \ ∅) (fun d => (rd (F := F) m).payload (sendCell c k b) 0 d) = sendPay m c k b := by
  rw [Finset.sdiff_empty, duties_send, bigSep_singleton, payload_send]
theorem rest_recv : bigSep ((rd (F := F) m).duties (recvCell c k b) 0 \ ∅) (fun d => (rd (F := F) m).payload (recvCell c k b) 0 d) = recvPay m c k b := by
  rw [Finset.sdiff_empty, duties_recv, bigSep_singleton, payload_recv]

end Tables

/-! ## What each device owes at launch; the levels -/

/-- The receive credit of the copy of batch `b` to the peer `k`. -/
abbrev oweRecv (c : Dev nD) (k : Fin 3) (b : Fin 2) : CellTallies nD τ sig Unit := tallyAt (recvCell (pe c k) k b) () N
/-- The barrier unit to the peer `k`. -/
abbrev oweBar (c : Dev nD) (k : Fin 3) : CellTallies nD τ sig Unit := tallyAt (barCell (pe c k)) () 1

/-- What a device owes for its copies of batch 1 … -/
def owe1 (c : Dev nD) : CellTallies nD τ sig Unit := 0 + oweRecv c 2 1 + oweRecv c 1 1 + oweRecv c 0 1
/-- … for all its copies: what it owes while it waits at the barrier … -/
def owe0 (c : Dev nD) : CellTallies nD τ sig Unit := owe1 c + oweRecv c 2 0 + oweRecv c 1 0 + oweRecv c 0 0
/-- … and at launch. -/
def O₀ (c : Dev nD) : CellTallies nD τ sig Unit := owe0 c + oweBar c 2 + oweBar c 1 + oweBar c 0

def L (g : GSem nD τ sig) : Finset Unit := if g.1.2 = .tc then {()} else ∅
/-- Barrier cells at 1, receive cells at 2, everything else at 0. -/
def lv (g : GSem nD τ sig) (_ : Unit) : ℕ := if IsBar g.2 then 1 else if IsRecv g.2 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (k : Fin 3) (b : Fin 2) : lv (recvCell c k b) () = 2 := by
  unfold lv; rw [if_neg (recv_ne_bar k b), if_pos ⟨k, b, rfl⟩]

theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

theorem add_pos_cases {a b : CellTallies nD τ sig Unit} {g : GSem nD τ sig} {u : Unit} (h : 0 < (a + b) g u) : 0 < a g u ∨ 0 < b g u := by
  rw [Pi.add_apply, Finsupp.add_apply] at h; omega

/-- While it waits at the barrier a device owes receive cells only. -/
theorem owe0_pos {c : Dev nD} {g : GSem nD τ sig} {u : Unit} (h : 0 < owe0 c g u) : ∃ e k b, g = recvCell e k b := by
  unfold owe0 owe1 at h
  iterate 6 (obtain h | h := add_pos_cases h; swap; exact ⟨_, _, _, tallyAt_pos h⟩)
  exact absurd h (Nat.lt_irrefl 0)

/-- At launch it owes receive and barrier cells only. -/
theorem O₀_pos {c : Dev nD} {g : GSem nD τ sig} {u : Unit} (h : 0 < O₀ c g u) : (∃ e, g = barCell e) ∨ ∃ e k b, g = recvCell e k b := by
  unfold O₀ at h
  iterate 3 (obtain h | h := add_pos_cases h; swap; exact .inl ⟨_, tallyAt_pos h⟩)
  exact .inr (owe0_pos h)

omit [FloatOps F] in
/-- The barrier lies below all that a device owes there. -/
theorem mayWait_bar (c : Dev nD) : (levAts L lv : sProp 𝕄) ⊢ MayWait (c : Thread nD τ) (.reg barS) () (owe0 c) :=
  MayOwe.of_cut (L := L) (lev := lv) 1 (fun p hp => by rw [Finset.mem_singleton.mp hp, L_tc]; exact Finset.mem_singleton_self _)
    (fun g u hg => by obtain ⟨e, k, b, rfl⟩ := owe0_pos hg; rw [L_tc]; exact Finset.mem_singleton_self _)
    (fun p hp => by rw [Finset.mem_singleton.mp hp]; exact (lv_bar c).le)
    (fun g u hg => by obtain ⟨e, k, b, rfl⟩ := owe0_pos hg; show 1 < lv (recvCell e k b) (); rw [lv_recv]; decide)

/-- All that a device owes at launch lies above level 0. -/
theorem cut (c : Dev nD) (g : GSem nD τ sig) (u : Unit) (h : 0 < O₀ c g u) : u ∈ L g ∧ 0 < lv g u := by
  rcases O₀_pos h with ⟨e, rfl⟩ | ⟨e, k, b, rfl⟩
  · exact ⟨by rw [L_tc]; exact Finset.mem_singleton_self _, by show 0 < lv (barCell e) (); rw [lv_bar]; decide⟩
  · exact ⟨by rw [L_tc]; exact Finset.mem_singleton_self _, by show 0 < lv (recvCell e k b) (); rw [lv_recv]; decide⟩

end Cert.GatherAttn

end
-- ==== Proof.Comm.lean ====
/-
  The exchange's STEPS, each for any peer `k` and batch `b`: a barrier signal, the barrier wait, a copy to a peer, and
  the waits on a send and on a receive semaphore — with what a device holds before and after each.
-/
module

public import proofs.«01_k».proof.Proof.Proto
public import Idealize.ShloMosaic.Lib.Pipeline.Kit
public import Idealize.ShloMosaic.Lib.Pipeline.Regions

@[expose] public section

set_option maxRecDepth 16384

noncomputable section

namespace Cert.GatherAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The records: every cell's invariant -/

/-- The cells of the exchange: a device's barrier cell … -/
def barEmb : Dev nD ↪ GSem nD τ sig := ⟨fun c => barCell c, fun a b h => congrArg (fun g : GSem nD τ sig => g.1.1) h⟩
/-- … and its six send (`false`) and six receive (`true`) cells. -/
def scSem : Fin 2 × Fin 3 × Fin 2 → DmaSem sig
  | (0, k, b) => sendS k b
  | (1, k, b) => recvS k b
theorem scSem_inj : Function.Injective scSem := by decide
def scEmb : Dev nD × (Fin 2 × Fin 3 × Fin 2) ↪ GSem nD τ sig :=
  ⟨fun p => ((p.1 : Thread nD τ), .dma (scSem p.2)), fun p p' h => by
    have h1 : p.1 = p'.1 := congrArg (fun g : GSem nD τ sig => g.1.1) h
    have h2 : (SemLoc.dma (scSem p.2) : SemLoc sig) = .dma (scSem p'.2) := congrArg Prod.snd h
    exact Prod.ext h1 (scSem_inj (SemLoc.dma.inj h2))⟩

def barCells : Finset (GSem nD τ sig) := Finset.univ.map barEmb
def scCells : Finset (GSem nD τ sig) := Finset.univ.map scEmb

theorem bar_mem₀ (c : Dev nD) : barCell c ∈ barCells := Finset.mem_map.mpr ⟨c, Finset.mem_univ _, rfl⟩
theorem bar_mem (c : Dev nD) : barCell c ∈ barCells ∪ scCells := Finset.mem_union_left _ (bar_mem₀ c)
theorem send_mem (c : Dev nD) (k : Fin 3) (b : Fin 2) : sendCell c k b ∈ barCells ∪ scCells :=
  Finset.mem_union_right _ (Finset.mem_map.mpr ⟨(c, 0, k, b), Finset.mem_univ _, rfl⟩)
theorem recv_mem (c : Dev nD) (k : Fin 3) (b : Fin 2) : recvCell c k b ∈ barCells ∪ scCells :=
  Finset.mem_union_right _ (Finset.mem_map.mpr ⟨(c, 1, k, b), Finset.mem_univ _, rfl⟩)

/-- Every cell's invariant, with that every barrier cell is open at round 0: what all devices know. -/
def records (K : GSem nD τ sig → ℕ) : sProp 𝕄 :=
  iprop((bigSep (barCells ∪ scCells) fun g => cellInv ER (rd m) (K g) g) ∗ bigSep barCells fun g => reached ER g 0)

instance records_persistent (K : GSem nD τ sig → ℕ) : BI.Persistent (records (F := F) m K) := by unfold records; infer_instance

/-- One cell's conjunct of a conjunction over cells. -/
theorem cell_of {S : Finset (GSem nD τ sig)} {g : GSem nD τ sig} (h : g ∈ S) {Φ : GSem nD τ sig → sProp 𝕄} : (bigSep S Φ : sProp 𝕄) ⊢ Φ g :=
  bigSep_elim h

theorem records_inv {K : GSem nD τ sig → ℕ} {g : GSem nD τ sig} (hg : g ∈ barCells ∪ scCells) :
    records (F := F) m K ⊢ cellInv ER (rd m) (K g) g := by
  unfold records
  iintro ⟨H, -⟩
  iapply (cell_of (Φ := fun g => cellInv ER (rd m) (K g) g) hg) $$ H
theorem records_bar {K : GSem nD τ sig → ℕ} (c : Dev nD) : records (F := F) m K ⊢ reached ER (barCell c) 0 := by
  unfold records
  iintro ⟨-, H⟩
  iapply (cell_of (Φ := fun g => reached ER g 0) (bar_mem₀ c)) $$ H

/-- A cell's counter is back at zero once its one round is over. -/
theorem close_cell {K : GSem nD τ sig → ℕ} {g : GSem nD τ sig} (hg : g ∈ barCells ∪ scCells) :
    iprop(records (F := F) m K ∗ atPos ER g (0 + 1) ∅ 0) ⊢ |={Set.univ}=> semVal g 0 := by
  iintro ⟨#HR, Hat⟩
  iapply (Rounds.cell_close ER (rd m) (Set.mem_univ (K g)) id (duties_later m g)) $$ [Hat]
  isplitr
  · iapply (records_inv m hg); iexact HR
  · iexact Hat

abbrev 𝒱₀ : Variants := Variants.none

/-- What a device owes, whatever it has waited on. -/
def owing (c : Dev nD) (O : CellTallies nD τ sig Unit) : sProp 𝕄 := iprop(∃ W, owes (c : Thread nD τ) O W)

/-! ## The barrier -/

/-- A SIGNAL to the peer `k`: it hands that peer the two blocks of this device's output that the peer will fill. -/
theorem signal_step {K : GSem nD τ sig → ℕ} (c : Dev nD) (k : Fin 3) {p : Thread nD τ} (hp : p = (pe c k : Thread nD τ)) {s : Sem sig} (hs : s = barS)
    {O₀ : CellTallies nD τ sig Unit} (O : CellTallies nD τ sig Unit) (hO : O₀ = O + oweBar c k) {α : Type}
    {kt : PUnit → Prog (TpuEff nD τ sig (Elt F) Λ₀ .tc) α} {Q : α → sProp 𝕄} :
    iprop(records m K ∗ owing c O₀ ∗ dutyTok ER (barCell (pe c k)) 0 k.rev
        ∗ (∃ f, oLoc c ↦[blk (pe c k) 0]{fullShare} f) ∗ (∃ f, oLoc c ↦[blk (pe c k) 1]{fullShare} f)
        ∗ reached ER (recvCell c k.rev 0) 0 ∗ reached ER (recvCell c k.rev 1) 0)
      ⊢ iprop((owing c O -∗ wp frame (wpE (defs₀ (F := F)) 𝒱₀ c none) Set.univ (kt ⟨⟩) Q)
        -∗ wp frame (wpE (defs₀ (F := F)) 𝒱₀ c none) Set.univ (.op (.semSignal p s 1) kt) Q) := by
  subst hp hs
  unfold owing
  iintro ⟨#HR, ⟨%W, HO⟩, Ht, H0, H1, #Hr0, #Hr1⟩ Hk
  iapply (Rounds.wp_signal 𝒱₀ ER (rd m) (c : Thread nD τ) none (dst := (pe c k : Thread nD τ)) (sem := barS) (r := 0) (d := k.rev) (κ := K (barCell (pe c k)))
      (by rw [duties_bar]; exact Finset.mem_univ _) (amount_bar m (pe c k) k.rev) () O hO) $$ [HO Ht H0 H1]
  · isplitr; · iapply (records_inv m (bar_mem (pe c k))); iexact HR
    isplitl [HO]; · iexact HO
    isplitl [Ht]; · iexact Ht
    isplitl [H0 H1]
    · rw [payload_bar]; unfold barPay; rw [pe_rev]
      isplitl [H0 H1]
      · isplitl [H0]; · iexact H0
        iexact H1
      · isplitr; · iexact Hr0
        iexact Hr1
    · iapply (records_bar m (pe c k)); iexact HR
  iintro HO
  iapply Hk
  iexists W; iexact HO

/-- The WAIT at the barrier: the three peers' blocks are this device's to fill, and the barrier's counter is back. -/
theorem barrier_step {K : GSem nD τ sig → ℕ} (c : Dev nD) {s : Sem sig} (hs : s = barS) {α : Type}
    {kt : PUnit → Prog (TpuEff nD τ sig (Elt F) Λ₀ .tc) α} {Q : α → sProp 𝕄} :
    iprop(records m K ∗ levAts L lv ∗ owing c (owe0 c) ∗ cred (tallyAt (barCell c) () 3) ∗ atPos ER (barCell c) 0 ∅ 0)
      ⊢ iprop(((owing c (owe0 c) ∗ semVal (barCell c) 0 ∗ barPay c 0 ∗ barPay c 1 ∗ barPay c 2)
          -∗ wp frame (wpE (defs₀ (F := F)) 𝒱₀ c none) Set.univ (kt ⟨⟩) Q)
        -∗ wp frame (wpE (defs₀ (F := F)) 𝒱₀ c none) Set.univ (.op (.semWait s 3) kt) Q) := by
  subst hs
  unfold owing
  iintro ⟨#HR, #Hlev, ⟨%W, HO⟩, Hc, Hat⟩ Hk
  iapply (Rounds.wp_wait_rest_token 𝒱₀ ER (rd m) (c : Thread nD τ) none (κ := K (barCell c))
      (wpE_semWait_eq 𝒱₀ (c : Thread nD τ) none Set.univ) (Set.mem_univ _) () (O := owe0 c) (W := W) (R := 0) (m := 0) (T := ∅)
      ((Nat.zero_add 3).trans (expect_bar m c).symm)) $$ [Hc HO Hat]
  · isplitr; · iapply (records_inv m (bar_mem c)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (close_cell m (bar_mem c)) $$ [Hat] with Hv
  · isplitr; · iexact HR
    iexact Hat
  iapply Hk
  isplitl [HO]; · iexists _; iexact HO
  isplitl [Hv]; · iexact Hv
  iexact Hp

/-! ## A copy -/

/-- What a device needs of the cells for its copy of batch `b` to the peer `k`: the two duties the copy pays, and its
    place in the send cell's round. -/
def copyIn (c : Dev nD) (k : Fin 3) (b : Fin 2) : sProp 𝕄 :=
  iprop(dutyTok ER (sendCell c k b) 0 0 ∗ reached ER (sendCell c k b) 0 ∗ dutyTok ER (recvCell (pe c k) k b) 0 0 ∗ atPos ER (sendCell c k b) 0 ∅ 0)
/-- What it has while the copy is under way. -/
def copyOut (c : Dev nD) (k : Fin 3) (b : Fin 2) : sProp 𝕄 :=
  iprop(atPos ER (sendCell c k b) 0 ∅ 0 ∗ cred (tallyAt (sendCell c k b) () N))
/-- What it has to wait with for the copy that arrives through the receive cell `(k, b)`. -/
def recvIn (c : Dev nD) (k : Fin 3) (b : Fin 2) : sProp 𝕄 :=
  iprop(atPos ER (recvCell c k b) 0 ∅ 0 ∗ cred (tallyAt (recvCell c k b) () N))

/-- A COPY of batch `b` to the peer `k`. -/
theorem copy_step {K : GSem nD τ sig → ℕ} (c : Dev nD) (k : Fin 3) (b : Fin 2) {p : Dev nD} (hp : p = pe c k)
    {src : Memref sig .tc .vmem S128x256 .bf16} (hsrc : src = srcM b) {dst : Memref sig .tc .vmem S128x256 .bf16} (hdst : dst = dstM c b)
    {s₁ s₂ : DmaSem sig} (hs₁ : s₁ = sendS k b) (hs₂ : s₂ = recvS k b)
    {O₀ : CellTallies nD τ sig Unit} (O : CellTallies nD τ sig Unit) (hO : O₀ = O + oweRecv c k b) {α : Type}
    {hsc : dst.view.ref.isScScratch = false} {h₁ : src.view.WordExact} {h₂ : dst.view.WordExact}
    {h₃ : DmaTarget.Typed .vmem (.dma s₂) (.remote (Dev.tc p) dst (.dma s₁) hsc)}
    {kt : PUnit → Prog (TpuEff nD τ sig (Elt F) Λ₀ .tc) α} {Q : α → sProp 𝕄} :
    iprop(records m K ∗ owing c O₀ ∗ copyIn c k b ∗ reached ER (recvCell (pe c k) k b) 0
        ∗ (∃ f, oLoc (pe c k) ↦[blk c b]{fullShare} f) ∗ sendPay m c k b)
      ⊢ iprop(((owing c O ∗ copyOut c k b) -∗ wp frame (wpE (defs₀ (F := F)) 𝒱₀ c none) Set.univ (kt ⟨⟩) Q)
        -∗ wp frame (wpE (defs₀ (F := F)) 𝒱₀ c none) Set.univ (.op (.enqueueDma src (.remote (Dev.tc p) dst (.dma s₁) hsc) (.dma s₂) h₁ h₂ h₃) kt) Q) := by
  subst hp hsrc hdst hs₁ hs₂
  unfold owing copyIn copyOut
  iintro ⟨#HR, ⟨%W, HO⟩, ⟨Ht₁, Hr₁, Ht₂, Hat⟩, Hr₂, ⟨%fd, Hd⟩, Hs⟩ Hk
  iapply (Rounds.wp_send_pointsTo 𝒱₀ ER (rd m) (c : Thread nD τ) none (c' := (pe c k : Thread nD τ)) (src := srcM b) (dst := dstM c b)
      (sS := .dma (sendS k b)) (sem := .dma (recvS k b)) (q := shr k) (fs := ctx m c) (κ₁ := K (sendCell c k b)) (κ₂ := K (recvCell (pe c k) k b))
      (r₁ := 0) (r₂ := 0) (d₁ := 0) (d₂ := 0) (fd := fd)
      (by rw [duties_send]; exact Finset.mem_singleton_self _) (by rw [duties_recv]; exact Finset.mem_singleton_self _)
      () () N rfl (amount_send m c k b 0) (amount_recv m (pe c k) k b 0) O hO (W := W)
      (by rw [payload_send, src_set]; exact BI.Entails.refl _)
      (by rw [payload_recv, dst_set]; unfold recvPay; rw [pe_rev]
          exact Entails.of_eq (pointsTo_congr (landed m c b fd)))) $$ [Hs Hd HO Ht₁ Ht₂ Hr₁ Hr₂]
  · isplitr; · iapply (records_inv m (send_mem c k b)); iexact HR
    isplitr; · iapply (records_inv m (recv_mem (pe c k) k b)); iexact HR
    isplitl [Hs]; · rw [src_set]; unfold sendPay; iexact Hs
    isplitl [Hd]; · rw [dst_set]; iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [HO]; · iexists W; iexact HO
  isplitl [Hat]; · iexact Hat
  iexact Hc

/-- The WAIT on a receive semaphore, owing nothing: the block has landed, at the gathered contents. -/
theorem recv_step {K : GSem nD τ sig → ℕ} (c : Dev nD) (k : Fin 3) (b : Fin 2) {s : DmaSem sig} (hs : s = recvS k b)
    {s' : Shape} {e' : EltTy} {src dst : Memref sig .tc .vmem s' e'} (hN : dst.view.dmaCredit = N) {h₁ : src.view.WordExact} {h₂ : dst.view.WordExact} {α : Type}
    {kt : PUnit → Prog (TpuEff nD τ sig (Elt F) Λ₀ .tc) α} {Q : α → sProp 𝕄} :
    iprop(records m K ∗ owing c 0 ∗ recvIn c k b)
      ⊢ iprop(((owing c 0 ∗ semVal (recvCell c k b) 0 ∗ recvPay m c k b) -∗ wp frame (wpE (defs₀ (F := F)) 𝒱₀ c none) Set.univ (kt ⟨⟩) Q)
        -∗ wp frame (wpE (defs₀ (F := F)) 𝒱₀ c none) Set.univ (.op (.waitDma2 s src dst h₁ h₂) kt) Q) := by
  subst hs
  unfold owing recvIn
  iintro ⟨#HR, ⟨%W, HO⟩, Hat, Hc⟩ Hk
  iapply (Rounds.wp_wait_rest_token 𝒱₀ ER (rd m) (c : Thread nD τ) none (κ := K (recvCell c k b))
      (wpE_waitDma2_eq 𝒱₀ (c : Thread nD τ) none Set.univ) (Set.mem_univ _) () (O := 0) (W := W) (R := 0) (m := 0) (T := ∅)
      ((Nat.zero_add _).trans (hN.trans (expect_recv m c k b).symm))) $$ [Hc HO Hat]
  · isplitr; · iapply (records_inv m (recv_mem c k b)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m c k b)) $$ Hpay
  imod (close_cell m (recv_mem c k b)) $$ [Hat] with Hv
  · isplitr; · iexact HR
    iexact Hat
  iapply Hk
  isplitl [HO]; · iexists _; iexact HO
  isplitl [Hv]; · iexact Hv
  iexact Hp

/-- The WAIT on a send semaphore, owing nothing: the share of the scratch that the copy read is back. -/
theorem sent_step {K : GSem nD τ sig → ℕ} (c : Dev nD) (k : Fin 3) (b : Fin 2) {s : DmaSem sig} (hs : s = sendS k b)
    {s' : Shape} {e' : EltTy} {src dst : Memref sig .tc .vmem s' e'} (hN : dst.view.dmaCredit = N) {h₁ : src.view.WordExact} {h₂ : dst.view.WordExact} {α : Type}
    {kt : PUnit → Prog (TpuEff nD τ sig (Elt F) Λ₀ .tc) α} {Q : α → sProp 𝕄} :
    iprop(records m K ∗ owing c 0 ∗ copyOut c k b)
      ⊢ iprop(((owing c 0 ∗ semVal (sendCell c k b) 0 ∗ sendPay m c k b) -∗ wp frame (wpE (defs₀ (F := F)) 𝒱₀ c none) Set.univ (kt ⟨⟩) Q)
        -∗ wp frame (wpE (defs₀ (F := F)) 𝒱₀ c none) Set.univ (.op (.waitDma2 s src dst h₁ h₂) kt) Q) := by
  subst hs
  unfold owing copyOut
  iintro ⟨#HR, ⟨%W, HO⟩, Hat, Hc⟩ Hk
  iapply (Rounds.wp_wait_rest_token 𝒱₀ ER (rd m) (c : Thread nD τ) none (κ := K (sendCell c k b))
      (wpE_waitDma2_eq 𝒱₀ (c : Thread nD τ) none Set.univ) (Set.mem_univ _) () (O := 0) (W := W) (R := 0) (m := 0) (T := ∅)
      ((Nat.zero_add _).trans (hN.trans (expect_send m c k b).symm))) $$ [Hc HO Hat]
  · isplitr; · iapply (records_inv m (send_mem c k b)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send m c k b)) $$ Hpay
  imod (close_cell m (send_mem c k b)) $$ [Hat] with Hv
  · isplitr; · iexact HR
    iexact Hat
  iapply Hk
  isplitl [HO]; · iexists _; iexact HO
  isplitl [Hv]; · iexact Hv
  iexact Hp

end Cert.GatherAttn

end
-- ==== Proof.Fill.lean ====
/-
  What the kernel's own stores leave: the four heads of a batch stored in the scratch are that half of `ctx`, and the
  device's own block stored in the output is that block of the gathered array. Each for any batch `b`.
-/
module

public import proofs.«01_k».proof.Proof.Proto
public import Idealize.ShloMosaic.Lib.Writes
public import Idealize.ShloMosaic.Lib.Pipeline.Value

@[expose] public section

set_option maxRecDepth 16384

noncomputable section

namespace Cert.GatherAttn

open Cert.KernelIdeal Cert.KernelIdeal.Gen
open Idealize.ShloMosaic
open Idealize.ShloMosaic.TcCoe

variable {F : FTy → Type} [FloatOps F]
variable (m : (ℓ : Loc nD τ sig) → Buf (Elt F) ℓ)

/-! ## The loads -/

/-- The columns `64 h ..` of a load of batch `b`'s queries, as a function of the whole array of queries. -/
theorem headCols_load (Q : FVec F S2x128x256 .bf16) (b : Fin 2) (h : Fin 4) (a : Vec F S1x128x256 .bf16)
    (ha : ∀ (x : S1x128x256.Idx) (y : S2x128x256.Idx), (y 0).val = b.val → (y 1).val = (x 1).val → (y 2).val = (x 2).val → a x = Q y)
    (off : Fin 2 → ℕ) (hoff : off = ![0, 64 * h.val]) (hs : S128x256.Slices off S128x64) :
    headCols off a hs = fun i => Q (ix3 b (i 0) ⟨64 * h.val + (i 1).val, by have h1 : (i 1).val < 64 := (i 1).isLt; have := h.isLt; omega⟩) := by
  subst hoff
  funext i
  have h1 : (i 1).val < 64 := (i 1).isLt
  have hh := h.isLt
  unfold headCols
  refine (extractStridedSlice_apply _ _ _ i (ix2 (i 0) ⟨64 * h.val + (i 1).val, by omega⟩) fun a => match a with
    | 0 => (Nat.zero_add _).symm | 1 => rfl).trans ?_
  refine (shapeCast_apply _ _ _ (ix3 ⟨0, Nat.one_pos⟩ (i 0) ⟨64 * h.val + (i 1).val, by omega⟩) ?_).trans (ha _ _ rfl rfl rfl)
  refine (Shape.rowMajor_val_three _).trans (Eq.trans ?_ (Shape.rowMajor_val_two _).symm)
  show (0 * 128 + (i 0).val) * 256 + (64 * h.val + (i 1).val) = (i 0).val * 256 + (64 * h.val + (i 1).val)
  omega

/-- A load of one head's keys (or values) of batch `b` as a matrix, as a function of the whole array. -/
theorem plane_load (K : FVec F S2x4x64x128 .bf16) (b : Fin 2) (h : Fin 4) (k : Vec F S1x1x64x128 .bf16)
    (hk : ∀ (x : S1x1x64x128.Idx) (y : S2x4x64x128.Idx), (y 0).val = b.val → (y 1).val = h.val → (y 2).val = (x 2).val → (y 3).val = (x 3).val → k x = K y) :
    plane k = fun i => K (ix4 b h (i 0) (i 1)) := by
  funext i
  unfold plane
  refine (shapeCast_apply _ _ i (ix4 ⟨0, Nat.one_pos⟩ ⟨0, Nat.one_pos⟩ (i 0) (i 1)) ?_).trans (hk _ _ rfl rfl rfl rfl)
  rw [Shape.rowMajor_val_four, Shape.rowMajor_val_two]
  show ((0 * 1 + 0) * 64 + (i 0).val) * 128 + (i 1).val = (i 0).val * 128 + (i 1).val
  omega

/-- One of the eight heads, over loads of the staged arrays: `headVal`. -/
theorem head_load (Q : FVec F S2x128x256 .bf16) (K V : FVec F S2x4x64x128 .bf16) (b : Fin 2) (h : Fin 4)
    {qo : Fin 3 → ℕ} (hqo : qo = ![b.val, 0, 0]) (qi : ∀ a, qo a + S1x128x256.size a ≤ S2x128x256.size a)
    {ko : Fin 4 → ℕ} (hko : ko = ![b.val, h.val, 0, 0]) (ki : ∀ a, ko a + S1x1x64x128.size a ≤ S2x4x64x128.size a)
    {off : Fin 2 → ℕ} (hoff : off = ![0, 64 * h.val]) (hs : S128x256.Slices off S128x64) :
    attnHead mask
        (headCols off ((Memref.whole cc0_stg0_0 : Memref sig .tc .vmem S2x128x256 .bf16).view.readAt (Elt F) (Rect.unit (s := S2x128x256) qo S1x128x256.size qi).toLoadRect Q) hs)
        (plane ((Memref.whole cc0_stg1_0 : Memref sig .tc .vmem S2x4x64x128 .bf16).view.readAt (Elt F) (Rect.unit (s := S2x4x64x128) ko S1x1x64x128.size ki).toLoadRect K))
        (plane ((Memref.whole cc0_stg2_0 : Memref sig .tc .vmem S2x4x64x128 .bf16).view.readAt (Elt F) (Rect.unit (s := S2x4x64x128) ko S1x1x64x128.size ki).toLoadRect V))
      = headVal Q K V b h := by
  subst hqo hko
  unfold headVal
  congr 1
  · refine headCols_load Q b h _ (fun x y h0 h1 h2 => ?_) off hoff hs
    have x0 : (x 0).val < 1 := (x 0).isLt
    refine congrArg Q (funext fun a => Fin.ext ?_)
    match a with
    | 0 => show b.val + 1 * (x 0).val = (y 0).val; omega
    | 1 => show 0 + 1 * (x 1).val = (y 1).val; omega
    | 2 => show 0 + 1 * (x 2).val = (y 2).val; omega
  · refine plane_load K b h _ (fun x y h0 h1 h2 h3 => ?_)
    have x0 : (x 0).val < 1 := (x 0).isLt
    have x1 : (x 1).val < 1 := (x 1).isLt
    refine congrArg K (funext fun a => Fin.ext ?_)
    match a with
    | 0 => show b.val + 1 * (x 0).val = (y 0).val; omega
    | 1 => show h.val + 1 * (x 1).val = (y 1).val; omega
    | 2 => show 0 + 1 * (x 2).val = (y 2).val; omega
    | 3 => show 0 + 1 * (x 3).val = (y 3).val; omega
  · refine plane_load V b h _ (fun x y h0 h1 h2 h3 => ?_)
    have x0 : (x 0).val < 1 := (x 0).isLt
    have x1 : (x 1).val < 1 := (x 1).isLt
    refine congrArg V (funext fun a => Fin.ext ?_)
    match a with
    | 0 => show b.val + 1 * (x 0).val = (y 0).val; omega
    | 1 => show h.val + 1 * (x 1).val = (y 1).val; omega
    | 2 => show 0 + 1 * (x 2).val = (y 2).val; omega
    | 3 => show 0 + 1 * (x 3).val = (y 3).val; omega

/-! ## The stores -/

/-- Where batch `b`'s head `h` begins in the scratch. -/
def hOff (b : Fin 2) (h : Fin 4) : Fin 2 → ℕ := ![128 * b.val, 64 * h.val]
theorem hOff_inb (b : Fin 2) (h : Fin 4) : ∀ a, hOff b h a + S128x64.size a ≤ S256x256.size a := by
  have := b.isLt; have := h.isLt
  intro a
  match a with
  | 0 => show 128 * b.val + 128 ≤ 256; omega
  | 1 => show 64 * h.val + 64 ≤ 256; omega

/-- The four stores of batch `b`, the last one first. -/
abbrev heads (b : Fin 2) (w : Fin 4 → FVec F S128x64 .bf16) : List (View.Piece (Elt F) S256x256 .bf16) :=
  [⟨Rect.unit (hOff b 3) S128x64.size (hOff_inb b 3), w 3⟩, ⟨Rect.unit (hOff b 2) S128x64.size (hOff_inb b 2), w 2⟩,
    ⟨Rect.unit (hOff b 1) S128x64.size (hOff_inb b 1), w 1⟩, ⟨Rect.unit (hOff b 0) S128x64.size (hOff_inb b 0), w 0⟩]

/-- A head of the device `c`, as the scratch is to hold it. -/
abbrev headOf (c : Dev nD) (b : Fin 2) (h : Fin 4) : FVec F S128x64 .bf16 := headVal (V1 m c main_v11) (V1 m c main_v12) (V1 m c main_v13) b h

/-- The scratch and the output are whole buffers: their contents are what is read of them. -/
theorem read_scratch (f : FVec F S256x256 .bf16) (i : S256x256.Idx) : lM.view.read (Elt F) f i = f i := rfl
theorem read_out (f : FVec F S2x128x1024 .bf16) (i : S2x128x1024.Idx) : oM.view.read (Elt F) f i = f i := rfl

/-- The four stores by their payloads. -/
theorem heads_of (c : Dev nD) (b : Fin 2) {w0 w1 w2 w3 : FVec F S128x64 .bf16} (h0 : w0 = headOf m c b 0) (h1 : w1 = headOf m c b 1) (h2 : w2 = headOf m c b 2)
    (h3 : w3 = headOf m c b 3) :
    ([⟨Rect.unit (hOff b 3) S128x64.size (hOff_inb b 3), w3⟩, ⟨Rect.unit (hOff b 2) S128x64.size (hOff_inb b 2), w2⟩,
      ⟨Rect.unit (hOff b 1) S128x64.size (hOff_inb b 1), w1⟩, ⟨Rect.unit (hOff b 0) S128x64.size (hOff_inb b 0), w0⟩] : List (View.Piece (Elt F) S256x256 .bf16))
      = heads b (headOf m c b) := by
  subst h0 h1 h2 h3; rfl

/-- After a batch's four stores, its half of the scratch is that half of `ctx`. -/
theorem read_heads (c : Dev nD) (b : Fin 2) (f : FVec F S256x256 .bf16) (i : S256x256.Idx) (hi : i ∈ half b) :
    lM.view.writes (Elt F) f (heads b (headOf m c b)) i = ctx m c i := by
  refine (read_scratch (lM.view.writes (Elt F) f (heads b (headOf m c b))) i).symm.trans ?_
  have i0 : (i 0).val < 256 := (i 0).isLt
  have i1 : (i 1).val < 256 := (i 1).isLt
  have hp : ∀ h : Fin 4, ∀ x, headOf m c b h x = ctx m c ((Rect.unit (s := S256x256) (hOff b h) S128x64.size (hOff_inb b h)).emb x) :=
    fun h x => (localCtx_at _ _ _ _ b h x (by show 128 * b.val + 1 * (x 0).val = _; omega) (by show 64 * h.val + 1 * (x 1).val = _; omega)).symm
  have hm : ∀ h : Fin 4, (i 1).val / 64 = h.val → i ∈ (Rect.unit (s := S256x256) (hOff b h) S128x64.size (hOff_inb b h)).set := fun h e => by
    rw [mem_half] at hi
    rw [Rect.mem_set_unit]
    intro a
    match a with
    | 0 => show 128 * b.val ≤ (i 0).val ∧ (i 0).val < 128 * b.val + 128; omega
    | 1 => show 64 * h.val ≤ (i 1).val ∧ (i 1).val < 64 * h.val + 64; omega
  refine View.read_writes_apply_of_pieces _ _ (ctx m c) (heads b (headOf m c b)) (fun p hp' => ?_) i ?_
  · simp only [heads, List.mem_cons, List.not_mem_nil, or_false] at hp'
    obtain rfl | rfl | rfl | rfl := hp'
    · exact hp 3
    · exact hp 2
    · exact hp 1
    · exact hp 0
  · have hc : (i 1).val / 64 = 0 ∨ (i 1).val / 64 = 1 ∨ (i 1).val / 64 = 2 ∨ (i 1).val / 64 = 3 := by omega
    simp only [heads, List.mem_cons, List.not_mem_nil, or_false]
    obtain e | e | e | e := hc
    · exact ⟨_, .inr (.inr (.inr rfl)), hm 0 e⟩
    · exact ⟨_, .inr (.inr (.inl rfl)), hm 1 e⟩
    · exact ⟨_, .inr (.inl rfl), hm 2 e⟩
    · exact ⟨_, .inl rfl, hm 3 e⟩

/-- Batch `b`'s half, as a copy or a load names its elements. -/
theorem mem_half_emb (b : Fin 2) (x : S128x256.Idx) : (sRect b).emb x ∈ half b := by
  have h0 : (x 0).val < 128 := (x 0).isLt
  have hs : ((sRect b).emb x 0).val = 128 * b.val + 1 * (x 0).val := congrArg (fun o : Fin 2 → ℕ => o 0 + 1 * (x 0).val) (sOff_eq b)
  rw [mem_half, hs]; omega

/-- So a load of the half reads that half of `ctx` … -/
theorem load_heads (c : Dev nD) (b : Fin 2) :
    lM.view.readCov (heads b (headOf m c b)) (sRect b).toLoadRect = fun x => ctx m c ((sRect b).emb x) :=
  funext fun x => (read_scratch _ _).trans (read_heads m c b _ _ (mem_half_emb b x))

theorem load_heads0 (c : Dev nD) : lM.view.readCov (heads 0 (headOf m c 0)) (Rect.unit (s := S256x256) ![0, 0] S128x256.size inb_S256x256_S128x256_0_0).toLoadRect
    = fun x => ctx m c ((sRect 0).emb x) := load_heads m c 0
theorem load_heads1 (c : Dev nD) : lM.view.readCov (heads 1 (headOf m c 1)) (Rect.unit (s := S256x256) ![128, 0] S128x256.size inb_S256x256_S128x256_128_0).toLoadRect
    = fun x => ctx m c ((sRect 1).emb x) := load_heads m c 1

/-- The device's own block, entry by entry: the half of its scratch is the gathered array's block. -/
theorem own_block (c : Dev nD) (b : Fin 2) (x : S1x128x256.Idx) :
    shapeCast S1x128x256 (fun x : S128x256.Idx => ctx m c ((sRect b).emb x)) shapeCasts_S128x256_S1x128x256 x = G m ((wRect c b).emb x) := by
  have h0 : (x 0).val < 1 := (x 0).isLt
  have h1 : (x 1).val < 128 := (x 1).isLt
  have h2 : (x 2).val < 256 := (x 2).isLt
  have hd : ∀ a, ((wRect c b).emb x a).val = ![b.val, 0, 256 * c.val] a + 1 * (x a).val :=
    fun a => congrArg (fun o : Fin 3 → ℕ => o a + 1 * (x a).val) (wOff_eq c b)
  have hs : ∀ (y : S128x256.Idx) a, ((sRect b).emb y a).val = ![128 * b.val, 0] a + 1 * (y a).val := fun y a => congrArg (fun o : Fin 2 → ℕ => o a + 1 * (y a).val) (sOff_eq b)
  refine (shapeCast_apply _ _ x (ix2 (x 1) (x 2)) ?_).trans ?_
  · refine (Shape.rowMajor_val_two _).trans (Eq.trans ?_ (Shape.rowMajor_val_three _).symm)
    show (x 1).val * 256 + (x 2).val = ((x 0).val * 128 + (x 1).val) * 256 + (x 2).val
    omega
  · refine (gathered_at _ _ c _ ?_ ?_ ?_).symm
    · rw [hd 2]; show (256 * c.val + 1 * (x 2).val) / 256 = c.val; omega
    · rw [hd 0, hd 1]; refine Eq.trans ?_ (hs (ix2 (x 1) (x 2)) 0).symm; show 128 * (b.val + 1 * (x 0).val) + (0 + 1 * (x 1).val) = 128 * b.val + 1 * (x 1).val; omega
    · rw [hd 2]; refine Eq.trans ?_ (hs (ix2 (x 1) (x 2)) 1).symm; show (256 * c.val + 1 * (x 2).val) % 256 = 0 + 1 * (x 2).val; omega

/-- … and storing it at the device's own place leaves that block of the output at the gathered array. -/
theorem write_own (c : Dev nD) (b : Fin 2) (f : FVec F S2x128x1024 .bf16) (w : FVec F S1x128x256 .bf16)
    (hw : w = shapeCast S1x128x256 (fun x : S128x256.Idx => ctx m c ((sRect b).emb x)) shapeCasts_S128x256_S1x128x256) (i : S2x128x1024.Idx) (hi : i ∈ blk c b) :
    oM.view.writes (Elt F) f [⟨wRect c b, w⟩] i = G m i := by
  refine (read_out (oM.view.writes (Elt F) f [⟨wRect c b, w⟩]) i).symm.trans ?_
  subst hw
  rw [← wRect_set c b] at hi
  obtain ⟨x, rfl⟩ := (wRect c b).exists_idx_of_mem hi
  refine (View.read_writes_cons_emb oM.view f (Val := Elt F) (wRect c b) _ [] x).trans (own_block m c b x)

end Cert.GatherAttn

end
-- ==== Proof.Split.lean ====
/-
  The output buffer cut into its eight blocks and the scratch into its two halves, and each half into the three shares
  that the copies to the three peers read it at.
-/
module

public import proofs.«01_k».proof.Proof.Proto
public import Idealize.ShloMosaic.Lib.Ring

@[expose] public section

set_option maxRecDepth 16384

noncomputable section

namespace Cert.GatherAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-! ## The output's blocks -/

/-- The blocks are disjoint … -/
theorem blk_disjoint (p q : Dev nD × Fin 2) (h : p ≠ q) : Disjoint (blk p.1 p.2) (blk q.1 q.2) := by
  rw [Finset.disjoint_left]
  intro i hp hq
  rw [mem_blk] at hp hq
  exact h (Prod.ext (Fin.ext (hp.2.symm.trans hq.2)) (Fin.ext (hp.1.symm.trans hq.1)))
/-- … and cover the buffer. -/
theorem blk_cover (i : S2x128x1024.Idx) : ∃ p ∈ (Finset.univ : Finset (Dev nD × Fin 2)), i ∈ blk p.1 p.2 := by
  have h0 : (i 0).val < 2 := (i 0).isLt
  have h2 : (i 2).val < 1024 := (i 2).isLt
  exact ⟨(⟨(i 2).val / 256, by show _ < 4; omega⟩, ⟨(i 0).val, h0⟩), Finset.mem_univ _, mem_blk.mpr ⟨rfl, rfl⟩⟩

theorem univ_blk (c : Dev nD) : (Finset.univ : Finset (Dev nD × Fin 2))
    = [(c, 0), (c, 1), (pe c 0, 0), (pe c 0, 1), (pe c 1, 0), (pe c 1, 1), (pe c 2, 0), (pe c 2, 1)].toFinset := by revert c; decide
theorem nodup_blk (c : Dev nD) :
    [(c, (0 : Fin 2)), (c, 1), (pe c 0, 0), (pe c 0, 1), (pe c 1, 0), (pe c 1, 1), (pe c 2, 0), (pe c 2, 1)].Nodup := by revert c; decide

/-- The output held whole is held block by block: the device's own two, then each peer's two. -/
theorem out_blocks (c : Dev nD) (f : FVec F S2x128x1024 .bf16) :
    (oLoc c ↦{fullShare} f : sProp 𝕄)
      = iprop((oLoc c ↦[blk c 0]{fullShare} f) ∗ (oLoc c ↦[blk c 1]{fullShare} f)
        ∗ (oLoc c ↦[blk (pe c 0) 0]{fullShare} f) ∗ (oLoc c ↦[blk (pe c 0) 1]{fullShare} f)
        ∗ (oLoc c ↦[blk (pe c 1) 0]{fullShare} f) ∗ (oLoc c ↦[blk (pe c 1) 1]{fullShare} f)
        ∗ (oLoc c ↦[blk (pe c 2) 0]{fullShare} f) ∗ (oLoc c ↦[blk (pe c 2) 1]{fullShare} f)) := by
  have h := Ring.pointsTo_blocks (Ix := Unit) (Val := Elt F) (Name := ℕ) (U := UU) (Lvl := ℕ) (ℓ := oLoc c) (q := fullShare)
    (fun p : Dev nD × Fin 2 => (blk p.1 p.2 : Finset (Idx (oLoc c)))) (fun p q hpq => blk_disjoint p q hpq)
    (Finset.eq_univ_iff_forall.mpr fun i => Finset.mem_biUnion.mpr (blk_cover i)) f
  refine h.trans ?_
  rw [bigSep_eq_bigSepL_of_eq _ (univ_blk c) (nodup_blk c)]
  simp only [bigSepL_cons_cons, bigSepL_singleton]
  rfl

/-! ## The scratch's halves -/

theorem half_disjoint (b b' : Fin 2) (h : b ≠ b') : Disjoint (half b) (half b') := by
  rw [Finset.disjoint_left]
  intro i hp hq
  rw [mem_half] at hp hq
  exact h (Fin.ext (hp.symm.trans hq))
theorem half_cover (i : S256x256.Idx) : ∃ b ∈ (Finset.univ : Finset (Fin 2)), i ∈ half b := by
  have h0 : (i 0).val < 256 := (i 0).isLt
  exact ⟨⟨(i 0).val / 128, by omega⟩, Finset.mem_univ _, mem_half.mpr rfl⟩

/-- The scratch held whole is held half by half. -/
theorem scratch_halves (c : Dev nD) (f : FVec F S256x256 .bf16) :
    (lLoc c ↦{fullShare} f : sProp 𝕄) = iprop((lLoc c ↦[half 0]{fullShare} f) ∗ lLoc c ↦[half 1]{fullShare} f) := by
  have h := Ring.pointsTo_blocks (Ix := Unit) (Val := Elt F) (Name := ℕ) (U := UU) (Lvl := ℕ) (ℓ := lLoc c) (q := fullShare)
    (fun b : Fin 2 => (half b : Finset (Idx (lLoc c)))) (fun b b' hb => half_disjoint b b' hb)
    (Finset.eq_univ_iff_forall.mpr fun i => Finset.mem_biUnion.mpr (half_cover i)) f
  refine h.trans ?_
  rw [bigSep_univ_eq_bigSepL [0, 1] (by decide) (by decide), bigSepL_cons_cons, bigSepL_singleton]
  rfl

/-- A half held whole is held at the three copies' shares. -/
theorem half_shares (c : Dev nD) (b : Fin 2) (f : FVec F S256x256 .bf16) :
    (lLoc c ↦[half b]{fullShare} f : sProp 𝕄)
      ⊣⊢ iprop((lLoc c ↦[half b]{shr 0} f) ∗ (lLoc c ↦[half b]{shr 1} f) ∗ lLoc c ↦[half b]{shr 2} f) :=
  (pointsTo_share (PosShare.mem_left_op_right fullShare)).trans (BI.Laws.sep_congr .refl (pointsTo_share (PosShare.mem_left_op_right fullShare.right)))

end Cert.GatherAttn

end
-- ==== Proof.Body.lean ====
/-
  The KERNEL'S BODY on a symbolic device: from what a device enters it with (`bodyIn`) to what it leaves it with
  (`bodyOut`), through the eight stored heads, the barrier, the six copies and their waits. The memory steps between the
  signals are run symbolically; each signal, copy and wait is one lemma of Comm.lean.
-/
module

public import proofs.«01_k».proof.Proof.Comm
public import proofs.«01_k».proof.Proof.Fill
public import proofs.«01_k».proof.Proof.Split
public import proofs.«01_k».proof.Proof.Gen.KernelIdeal.Points

@[expose] public section

set_option maxRecDepth 16384

noncomputable section

namespace Cert.GatherAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

variable (m : (ℓ : Loc nD τ sig) → Buf (Elt F) ℓ)

/-- A conjunct for each copy of a device, batch 0's first. -/
abbrev all6 (Φ : Fin 3 → Fin 2 → sProp 𝕄) : sProp 𝕄 := iprop(Φ 0 0 ∗ Φ 1 0 ∗ Φ 2 0 ∗ Φ 0 1 ∗ Φ 1 1 ∗ Φ 2 1)

/-- A device's buffers while the kernel runs: its staged queries, keys and values, and the output and the scratch. -/
abbrev qM : Memref sig .tc .vmem S2x128x256 .bf16 := Memref.whole cc0_stg0_0
abbrev kM : Memref sig .tc .vmem S2x4x64x128 .bf16 := Memref.whole cc0_stg1_0
abbrev vM : Memref sig .tc .vmem S2x4x64x128 .bf16 := Memref.whole cc0_stg2_0

/-- The staged operands, at the contents that the host operations left. -/
def staged (c : Dev nD) : sProp 𝕄 :=
  iprop((qM.view.loc (c : Thread nD τ) ↦{fullShare} V1 m c main_v11) ∗ (kM.view.loc (c : Thread nD τ) ↦{fullShare} V1 m c main_v12)
    ∗ (vM.view.loc (c : Thread nD τ) ↦{fullShare} V1 m c main_v13))

/-- What a device enters the kernel's body with … -/
def bodyIn (K : GSem nD τ sig → ℕ) (c : Dev nD) : sProp 𝕄 :=
  iprop(records m K ∗ levAts L lv ∗ owing c (O₀ c)
    ∗ (cred (tallyAt (barCell c) () 3) ∗ atPos ER (barCell c) 0 ∅ 0)
    ∗ (dutyTok ER (barCell (pe c 0)) 0 (0 : Fin 3).rev ∗ dutyTok ER (barCell (pe c 1)) 0 (1 : Fin 3).rev ∗ dutyTok ER (barCell (pe c 2)) 0 (2 : Fin 3).rev)
    ∗ all6 (fun k b => reached ER (recvCell c k b) 0) ∗ all6 (fun k b => copyIn c k b) ∗ all6 (fun k b => recvIn c k b)
    ∗ staged m c ∗ (∃ f, oM.view.loc (c : Thread nD τ) ↦{fullShare} f) ∗ ∃ f, lM.view.loc (c : Thread nD τ) ↦{fullShare} f)

/-- … and leaves it with: nothing owed, every counter back at zero, the output at the gathered array. -/
def bodyOut (c : Dev nD) : sProp 𝕄 :=
  iprop(owing c 0 ∗ semVal (barCell c) 0 ∗ all6 (fun k b => semVal (sendCell c k b) 0) ∗ all6 (fun k b => semVal (recvCell c k b) 0)
    ∗ staged m c ∗ (oM.view.loc (c : Thread nD τ) ↦{fullShare} G m) ∗ ∃ f, lM.view.loc (c : Thread nD τ) ↦{fullShare} f)

/-! ## The peers, as the program computes them -/

/-- The peer of each signal and of each copy is the one at that distance around the ring of four. -/
theorem dev_eq1 (c : Dev nD) : (⟨k0_dev1 c, k0_dev1_lt c⟩ : Dev nD) = pe c 0 := Fin.ext (k0_dev1_eq c)
theorem dev_eq2 (c : Dev nD) : (⟨k0_dev2 c, k0_dev2_lt c⟩ : Dev nD) = pe c 1 := Fin.ext (k0_dev2_eq c)
theorem dev_eq3 (c : Dev nD) : (⟨k0_dev3 c, k0_dev3_lt c⟩ : Dev nD) = pe c 2 := Fin.ext (k0_dev3_eq c)
theorem dev_eq4 (c : Dev nD) : (⟨k0_dev4 c, k0_dev4_lt c⟩ : Dev nD) = pe c 0 := Fin.ext (k0_dev4_eq c)
theorem dev_eq5 (c : Dev nD) : (⟨k0_dev5 c, k0_dev5_lt c⟩ : Dev nD) = pe c 1 := Fin.ext (k0_dev5_eq c)
theorem dev_eq6 (c : Dev nD) : (⟨k0_dev6 c, k0_dev6_lt c⟩ : Dev nD) = pe c 2 := Fin.ext (k0_dev6_eq c)
theorem dev_eq7 (c : Dev nD) : (⟨k0_dev7 c, k0_dev7_lt c⟩ : Dev nD) = pe c 0 := Fin.ext (k0_dev7_eq c)
theorem dev_eq8 (c : Dev nD) : (⟨k0_dev8 c, k0_dev8_lt c⟩ : Dev nD) = pe c 1 := Fin.ext (k0_dev8_eq c)
theorem dev_eq9 (c : Dev nD) : (⟨k0_dev9 c, k0_dev9_lt c⟩ : Dev nD) = pe c 2 := Fin.ext (k0_dev9_eq c)

/-- A peer as the thread that its barrier signal names. -/
theorem thread_eq {p q : Dev nD} (h : p = q) : (p : Thread nD τ) = (q : Thread nD τ) := congrArg (fun d : Dev nD => (d : Thread nD τ)) h

/-- The second half of the scratch and the device's second block, as the program's rectangles name them. -/
theorem setOn_half1 : lM.view.setOn (Rect.unit (s := S256x256) ![128, 0] S128x256.size inb_S256x256_S128x256_128_0).set = half 1 :=
  (View.set_slice _ _).symm.trans (src_set 1)
/-- … and the device's own block of batch 1 in the output. -/
theorem setOn_blk1 (c : Dev nD) : oM.view.setOn (Rect.unit (s := S2x128x1024) (k0_off3 c) S1x128x256.size (k0_off3_inb c)).set = blk c 1 :=
  (View.set_slice _ _).symm.trans ((View.set_slice_whole (cc0_stg3_0 : Ref sig .tc) (wRect c 1)).trans (wRect_set c 1))

/-- The same two regions as held memory … -/
theorem hold_half1 (c : Dev nD) (f : FVec F S256x256 .bf16) : (lLoc c ↦[half 1]{fullShare} f : sProp 𝕄)
    = (lM.view.loc (c : Thread nD τ) ↦[lM.view.setOn (Rect.unit (s := S256x256) ![128, 0] S128x256.size inb_S256x256_S128x256_128_0).set]{fullShare} f) :=
  congrArg (fun S => (lLoc c ↦[S]{fullShare} f : sProp 𝕄)) setOn_half1.symm
/-- … for the output. -/
theorem hold_blk1 (c : Dev nD) (f : FVec F S2x128x1024 .bf16) : (oLoc c ↦[blk c 1]{fullShare} f : sProp 𝕄)
    = (oM.view.loc (c : Thread nD τ) ↦[oM.view.setOn (Rect.unit (s := S2x128x1024) (k0_off3 c) S1x128x256.size (k0_off3_inb c)).set]{fullShare} f) :=
  congrArg (fun S => (oLoc c ↦[S]{fullShare} f : sProp 𝕄)) (setOn_blk1 c).symm

/-- The same two regions with their contents forgotten, before they are written: the scratch … -/
theorem half1_some (c : Dev nD) (f : FVec F S256x256 .bf16) : (lLoc c ↦[half 1]{fullShare} f : sProp 𝕄)
    ⊢ iprop(∃ g, lM.view.loc (c : Thread nD τ) ↦[lM.view.setOn (Rect.unit (s := S256x256) ![128, 0] S128x256.size inb_S256x256_S128x256_128_0).set]{fullShare} g) := by
  rw [hold_half1]; iintro H; iexists f; iexact H
/-- … and the output. -/
theorem blk1_some (c : Dev nD) (f : FVec F S2x128x1024 .bf16) : (oLoc c ↦[blk c 1]{fullShare} f : sProp 𝕄)
    ⊢ iprop(∃ g, oM.view.loc (c : Thread nD τ) ↦[oM.view.setOn (Rect.unit (s := S2x128x1024) (k0_off3 c) S1x128x256.size (k0_off3_inb c)).set]{fullShare} g) := by
  rw [hold_blk1]; iintro H; iexists f; iexact H

set_option maxHeartbeats 4000000 in
/-- The body, run once for every device: it ends owing nothing, with the gathered array in its output. -/
theorem body_run (K : GSem nD τ sig → ℕ) (c : Dev nD) :
    bodyIn m K c ⊢ wp frame (wpE (defs₀ (F := F)) 𝒱₀ c none) Set.univ
      (cc0_body qM (Memref.isWhole_whole _) kM (Memref.isWhole_whole _) vM (Memref.isWhole_whole _) oM (Memref.isWhole_whole _) lM (Memref.isWhole_whole _)
        cc0_scratch1 cc0_scratch2) (fun _ => bodyOut m c) := by
  unfold bodyIn staged
  iintro ⟨#HR, #Hlev, HO, ⟨HcB, HatB⟩, ⟨HtB0, HtB1, HtB2⟩, ⟨#Hr00, #Hr10, #Hr20, #Hr01, #Hr11, #Hr21⟩, ⟨Hc00, Hc10, Hc20, Hc01, Hc11, Hc21⟩,
    ⟨Hv00, Hv10, Hv20, Hv01, Hv11, Hv21⟩, ⟨Hq, Hk, Hvv⟩, ⟨%f3, Ho⟩, ⟨%f4, Hl⟩⟩
  -- batch 0's heads, stored in the scratch and at the device's own place of the output
  sl_exec
  ihave Ho := (Entails.of_eq (out_blocks c _)) $$ Ho
  icases Ho with ⟨Ho0, Ho1, Hp00, Hp01, Hp10, Hp11, Hp20, Hp21⟩
  -- the barrier: each peer is handed its two blocks of the output
  iapply (signal_step m (K := K) c 0 (thread_eq (dev_eq1 c)) rfl (owe0 c + oweBar c 2 + oweBar c 1) rfl) $$ [HO HtB0 Hp00 Hp01]
  · isplitr; · iexact HR
    isplitl [HO]; · iexact HO
    isplitl [HtB0]; · iexact HtB0
    isplitl [Hp00]; · iexists _; iexact Hp00
    isplitl [Hp01]; · iexists _; iexact Hp01
    isplitr; · iexact Hr20
    iexact Hr21
  iintro HO
  sl_exec
  iapply (signal_step m (K := K) c 1 (thread_eq (dev_eq2 c)) rfl (owe0 c + oweBar c 2) rfl) $$ [HO HtB1 Hp10 Hp11]
  · isplitr; · iexact HR
    isplitl [HO]; · iexact HO
    isplitl [HtB1]; · iexact HtB1
    isplitl [Hp10]; · iexists _; iexact Hp10
    isplitl [Hp11]; · iexists _; iexact Hp11
    isplitr; · iexact Hr10
    iexact Hr11
  iintro HO
  sl_exec
  iapply (signal_step m (K := K) c 2 (thread_eq (dev_eq3 c)) rfl (owe0 c) rfl) $$ [HO HtB2 Hp20 Hp21]
  · isplitr; · iexact HR
    isplitl [HO]; · iexact HO
    isplitl [HtB2]; · iexact HtB2
    isplitl [Hp20]; · iexists _; iexact Hp20
    isplitl [Hp21]; · iexists _; iexact Hp21
    isplitr; · iexact Hr00
    iexact Hr01
  iintro HO
  sl_exec
  iapply (barrier_step m (K := K) c rfl) $$ [HO HcB HatB]
  · isplitr; · iexact HR
    isplitr; · iexact Hlev
    isplitl [HO]; · iexact HO
    isplitl [HcB]; · iexact HcB
    iexact HatB
  unfold barPay
  iintro ⟨HO, HvB, ⟨⟨Hd00, Hd01⟩, #Hq00, #Hq01⟩, ⟨⟨Hd10, Hd11⟩, #Hq10, #Hq11⟩, ⟨⟨Hd20, Hd21⟩, #Hq20, #Hq21⟩⟩
  -- batch 0's half of the scratch, at the shares of its three copies
  ihave Hl := (Entails.of_eq (scratch_halves c _)) $$ Hl
  icases Hl with ⟨Hl0, Hl1⟩
  have hh0 : body_run.sl.Hl_4 m c = heads 0 (headOf m c 0) :=
    heads_of m c 0 ((store00 mask _ _ _).trans (head_load _ _ _ 0 0 rfl _ rfl _ rfl _)) ((store01 mask _ _ _).trans (head_load _ _ _ 0 1 rfl _ rfl _ rfl _))
      ((store02 mask _ _ _).trans (head_load _ _ _ 0 2 rfl _ rfl _ rfl _)) ((store03 mask _ _ _).trans (head_load _ _ _ 0 3 rfl _ rfl _ rfl _))
  have hl0 : ∀ i ∈ half 0, lM.view.writes (Elt F) f4 (body_run.sl.Hl_4 m c) i = ctx m c i := by rw [hh0]; exact read_heads m c 0 f4
  have ho0 : ∀ i ∈ blk c 0, oM.view.writes (Elt F) f3 [⟨wRect c 0, body_run.sl.v196 m c⟩] i = G m i :=
    write_own m c 0 f3 _ (by unfold body_run.sl.v196 body_run.sl.v192; rw [hh0, load_heads0]; rfl)
  ihave Hl0 := (Entails.of_eq (pointsTo_congr hl0)) $$ Hl0
  ihave Ho0 := (Entails.of_eq (pointsTo_congr ho0)) $$ Ho0
  ihave Hl0 := (half_shares c 0 (ctx m c)).1 $$ Hl0
  icases Hl0 with ⟨Hs0, Hs1, Hs2⟩
  -- its three copies
  sl_exec
  iapply (copy_step m (K := K) c 0 0 (dev_eq4 c) rfl rfl rfl rfl (owe1 c + oweRecv c 2 0 + oweRecv c 1 0) rfl) $$ [HO Hc00 Hd00 Hs0]
  · isplitr; · iexact HR
    isplitl [HO]; · iexact HO
    isplitl [Hc00]; · iexact Hc00
    isplitr; · iexact Hq00
    isplitl [Hd00]; · iexact Hd00
    unfold sendPay; iexact Hs0
  iintro ⟨HO, Hc00⟩
  sl_exec
  iapply (copy_step m (K := K) c 1 0 (dev_eq5 c) rfl rfl rfl rfl (owe1 c + oweRecv c 2 0) rfl) $$ [HO Hc10 Hd10 Hs1]
  · isplitr; · iexact HR
    isplitl [HO]; · iexact HO
    isplitl [Hc10]; · iexact Hc10
    isplitr; · iexact Hq10
    isplitl [Hd10]; · iexact Hd10
    unfold sendPay; iexact Hs1
  iintro ⟨HO, Hc10⟩
  sl_exec
  iapply (copy_step m (K := K) c 2 0 (dev_eq6 c) rfl rfl rfl rfl (owe1 c) rfl) $$ [HO Hc20 Hd20 Hs2]
  · isplitr; · iexact HR
    isplitl [HO]; · iexact HO
    isplitl [Hc20]; · iexact Hc20
    isplitr; · iexact Hq20
    isplitl [Hd20]; · iexact Hd20
    unfold sendPay; iexact Hs2
  iintro ⟨HO, Hc20⟩
  -- batch 1's heads, in the other half of the scratch and of the device's own place
  ihave Hl1 := (half1_some c _) $$ Hl1
  icases Hl1 with ⟨%f5, Hl1⟩
  ihave Ho1 := (blk1_some c _) $$ Ho1
  icases Ho1 with ⟨%f6, Ho1⟩
  sl_exec
  ihave Hl1 := (Entails.of_eq (hold_half1 c _).symm) $$ Hl1
  ihave Ho1 := (Entails.of_eq (hold_blk1 c _).symm) $$ Ho1
  have hh1 : body_run.sl.Hl1_4 m c = heads 1 (headOf m c 1) :=
    heads_of m c 1 ((store10 mask _ _ _).trans (head_load _ _ _ 1 0 rfl _ rfl _ rfl _)) ((store11 mask _ _ _).trans (head_load _ _ _ 1 1 rfl _ rfl _ rfl _))
      ((store12 mask _ _ _).trans (head_load _ _ _ 1 2 rfl _ rfl _ rfl _)) ((store13 mask _ _ _).trans (head_load _ _ _ 1 3 rfl _ rfl _ rfl _))
  have hl1 : ∀ i ∈ half 1, lM.view.writes (Elt F) f5 (body_run.sl.Hl1_4 m c) i = ctx m c i := by rw [hh1]; exact read_heads m c 1 f5
  have ho1 : ∀ i ∈ blk c 1, oM.view.writes (Elt F) f6 [⟨wRect c 1, k0_pay23 (body_run.sl.v344 m c)⟩] i = G m i :=
    write_own m c 1 f6 _ (by unfold body_run.sl.v344; rw [hh1, load_heads1]; rfl)
  ihave Hl1 := (Entails.of_eq (pointsTo_congr hl1)) $$ Hl1
  ihave Ho1 := (Entails.of_eq (pointsTo_congr ho1)) $$ Ho1
  ihave Hl1 := (half_shares c 1 (ctx m c)).1 $$ Hl1
  icases Hl1 with ⟨Hs0, Hs1, Hs2⟩
  -- its three copies
  iapply (copy_step m (K := K) c 0 1 (dev_eq7 c) rfl rfl rfl rfl (0 + oweRecv c 2 1 + oweRecv c 1 1) rfl) $$ [HO Hc01 Hd01 Hs0]
  · isplitr; · iexact HR
    isplitl [HO]; · iexact HO
    isplitl [Hc01]; · iexact Hc01
    isplitr; · iexact Hq01
    isplitl [Hd01]; · iexact Hd01
    unfold sendPay; iexact Hs0
  iintro ⟨HO, Hc01⟩
  sl_exec
  iapply (copy_step m (K := K) c 1 1 (dev_eq8 c) rfl rfl rfl rfl (0 + oweRecv c 2 1) rfl) $$ [HO Hc11 Hd11 Hs1]
  · isplitr; · iexact HR
    isplitl [HO]; · iexact HO
    isplitl [Hc11]; · iexact Hc11
    isplitr; · iexact Hq11
    isplitl [Hd11]; · iexact Hd11
    unfold sendPay; iexact Hs1
  iintro ⟨HO, Hc11⟩
  sl_exec
  iapply (copy_step m (K := K) c 2 1 (dev_eq9 c) rfl rfl rfl rfl 0 rfl) $$ [HO Hc21 Hd21 Hs2]
  · isplitr; · iexact HR
    isplitl [HO]; · iexact HO
    isplitl [Hc21]; · iexact Hc21
    isplitr; · iexact Hq21
    isplitl [Hd21]; · iexact Hd21
    unfold sendPay; iexact Hs2
  iintro ⟨HO, Hc21⟩
  sl_exec
  -- the six blocks of the peers land
  iapply (recv_step m (K := K) c 0 0 rfl (dst := dstM c 0) rfl) $$ [HO Hv00]
  · isplitr; · iexact HR
    isplitl [HO]; · iexact HO
    iexact Hv00
  iintro ⟨HO, Hv00, Hg00⟩
  sl_exec
  iapply (recv_step m (K := K) c 0 1 rfl (dst := dstM c 1) rfl) $$ [HO Hv01]
  · isplitr; · iexact HR
    isplitl [HO]; · iexact HO
    iexact Hv01
  iintro ⟨HO, Hv01, Hg01⟩
  sl_exec
  iapply (recv_step m (K := K) c 2 0 rfl (dst := dstM c 0) rfl) $$ [HO Hv20]
  · isplitr; · iexact HR
    isplitl [HO]; · iexact HO
    iexact Hv20
  iintro ⟨HO, Hv20, Hg20⟩
  sl_exec
  iapply (recv_step m (K := K) c 2 1 rfl (dst := dstM c 1) rfl) $$ [HO Hv21]
  · isplitr; · iexact HR
    isplitl [HO]; · iexact HO
    iexact Hv21
  iintro ⟨HO, Hv21, Hg21⟩
  sl_exec
  iapply (recv_step m (K := K) c 1 0 rfl (dst := dstM c 0) rfl) $$ [HO Hv10]
  · isplitr; · iexact HR
    isplitl [HO]; · iexact HO
    iexact Hv10
  iintro ⟨HO, Hv10, Hg10⟩
  sl_exec
  iapply (recv_step m (K := K) c 1 1 rfl (dst := dstM c 1) rfl) $$ [HO Hv11]
  · isplitr; · iexact HR
    isplitl [HO]; · iexact HO
    iexact Hv11
  iintro ⟨HO, Hv11, Hg11⟩
  sl_exec
  -- and the six copies out are done with the scratch
  iapply (sent_step m (K := K) c 0 0 rfl (dst := srcM 0) rfl) $$ [HO Hc00]
  · isplitr; · iexact HR
    isplitl [HO]; · iexact HO
    iexact Hc00
  iintro ⟨HO, Hc00, Hs00⟩
  sl_exec
  iapply (sent_step m (K := K) c 1 0 rfl (dst := srcM 0) rfl) $$ [HO Hc10]
  · isplitr; · iexact HR
    isplitl [HO]; · iexact HO
    iexact Hc10
  iintro ⟨HO, Hc10, Hs10⟩
  sl_exec
  iapply (sent_step m (K := K) c 2 0 rfl (dst := srcM 0) rfl) $$ [HO Hc20]
  · isplitr; · iexact HR
    isplitl [HO]; · iexact HO
    iexact Hc20
  iintro ⟨HO, Hc20, Hs20⟩
  sl_exec
  iapply (sent_step m (K := K) c 0 1 rfl (dst := srcM 1) rfl) $$ [HO Hc01]
  · isplitr; · iexact HR
    isplitl [HO]; · iexact HO
    iexact Hc01
  iintro ⟨HO, Hc01, Hs01⟩
  sl_exec
  iapply (sent_step m (K := K) c 1 1 rfl (dst := srcM 1) rfl) $$ [HO Hc11]
  · isplitr; · iexact HR
    isplitl [HO]; · iexact HO
    iexact Hc11
  iintro ⟨HO, Hc11, Hs11⟩
  sl_exec
  iapply (sent_step m (K := K) c 2 1 rfl (dst := srcM 1) rfl) $$ [HO Hc21]
  · isplitr; · iexact HR
    isplitl [HO]; · iexact HO
    iexact Hc21
  iintro ⟨HO, Hc21, Hs21⟩
  sl_exec
  rw [wp_ret]
  imodintro
  unfold bodyOut
  isplitl [HO]; · iexact HO
  isplitl [HvB]; · iexact HvB
  isplitl [Hc00 Hc10 Hc20 Hc01 Hc11 Hc21]
  · isplitl [Hc00]; · iexact Hc00
    isplitl [Hc10]; · iexact Hc10
    isplitl [Hc20]; · iexact Hc20
    isplitl [Hc01]; · iexact Hc01
    isplitl [Hc11]; · iexact Hc11
    iexact Hc21
  isplitl [Hv00 Hv10 Hv20 Hv01 Hv11 Hv21]
  · isplitl [Hv00]; · iexact Hv00
    isplitl [Hv10]; · iexact Hv10
    isplitl [Hv20]; · iexact Hv20
    isplitl [Hv01]; · iexact Hv01
    isplitl [Hv11]; · iexact Hv11
    iexact Hv21
  isplitl [Hq Hk Hvv]
  · unfold staged
    isplitl [Hq]; · iexact Hq
    isplitl [Hk]; · iexact Hk
    iexact Hvv
  -- the eight blocks are the whole output, all at the gathered contents
  isplitl [Ho0 Ho1 Hg00 Hg01 Hg10 Hg11 Hg20 Hg21]
  · iapply (Entails.of_eq (out_blocks c (G m)).symm)
    isplitl [Ho0]; · iexact Ho0
    isplitl [Ho1]; · iexact Ho1
    isplitl [Hg20]; · unfold recvPay; iexact Hg20
    isplitl [Hg21]; · unfold recvPay; iexact Hg21
    isplitl [Hg10]; · unfold recvPay; iexact Hg10
    isplitl [Hg11]; · unfold recvPay; iexact Hg11
    isplitl [Hg00]; · unfold recvPay; iexact Hg00
    unfold recvPay; iexact Hg01
  iexists (ctx m c)
  iapply (Entails.of_eq (scratch_halves c (ctx m c)).symm)
  isplitl [Hs00 Hs10 Hs20]
  · iapply (half_shares c 0 (ctx m c)).2
    unfold sendPay
    isplitl [Hs00]; · iexact Hs00
    isplitl [Hs10]; · iexact Hs10
    iexact Hs20
  · iapply (half_shares c 1 (ctx m c)).2
    unfold sendPay
    isplitl [Hs01]; · iexact Hs01
    isplitl [Hs11]; · iexact Hs11
    iexact Hs21

end Cert.GatherAttn

end
-- ==== Proof.Region.lean ====
/-
  The kernel's pallas_call as a REGION of the program: what enters it and what leaves it, that its body (`body_run`)
  is what the pipeline asks of it, and the record of the region.
-/
module

public import proofs.«01_k».proof.Proof.Body
public import proofs.«01_k».proof.Proof.Gen.KernelIdeal.Regions
public import Idealize.ShloMosaic.Lib.Pipeline.RegionTalk

@[expose] public section

set_option maxRecDepth 16384

noncomputable section

namespace Cert.GatherAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What enters the region and what leaves it -/

/-- A conjunction over the copies of a device, each peer `k` and batch `b`. -/
def each (Φ : Fin 3 → Fin 2 → sProp 𝕄) : sProp 𝕄 := bigSep Finset.univ fun p : Fin 3 × Fin 2 => Φ p.1 p.2
theorem each_eq (Φ : Fin 3 → Fin 2 → sProp 𝕄) : each Φ = all6 Φ :=
  bigSep_univ_eq_bigSepL [(0, 0), (1, 0), (2, 0), (0, 1), (1, 1), (2, 1)] (by decide) (by decide) _
theorem each_sep (Φ Ψ : Fin 3 → Fin 2 → sProp 𝕄) : each (fun k b => iprop(Φ k b ∗ Ψ k b)) = iprop(each Φ ∗ each Ψ) :=
  bigSep_sep' _ _ _

/-- The kernel's own semaphores that the exchange uses. -/
abbrev osem (p : Fin 2 × Fin 3 × Fin 2) : SemLoc sig := .dma (scSem p)

theorem over_cells (c : Dev nD) (Φ : GSem nD τ sig → sProp 𝕄) :
    (bigSep Finset.univ fun p : Fin 2 × Fin 3 × Fin 2 => Φ ((c : Thread nD τ), osem p))
      = iprop(each (fun k b => Φ (sendCell c k b)) ∗ each (fun k b => Φ (recvCell c k b))) := by
  rw [bigSep_univ_prod, BI.bigSep_fin_two]
  rfl

/-- The tokens of the duties that a device pays: its three barrier signals, and each copy's duty at its own send cell
    and at the peer's receive cell. -/
def payToks (c : Dev nD) : sProp 𝕄 :=
  iprop((dutyTok ER (barCell (pe c 0)) 0 (0 : Fin 3).rev ∗ dutyTok ER (barCell (pe c 1)) 0 (1 : Fin 3).rev ∗ dutyTok ER (barCell (pe c 2)) 0 (2 : Fin 3).rev)
    ∗ each (fun k b => dutyTok ER (sendCell c k b) 0 0) ∗ each (fun k b => dutyTok ER (recvCell (pe c k) k b) 0 0))

/-- What one device alone is dealt at the launch: its place at its barrier cell, the rights to open its send and receive
    cells, and the tokens it pays with. -/
def linear (c : Dev nD) : sProp 𝕄 :=
  iprop(atPos ER (barCell c) 0 ∅ 0 ∗ (each (fun k b => openTok ER (sendCell c k b)) ∗ each (fun k b => openTok ER (recvCell c k b))) ∗ payToks c)

/-- The units that other devices will pay at this device's cells. -/
def credits (c : Dev nD) : sProp 𝕄 := iprop(cred (tallyAt (barCell c) () 3) ∗ each (fun k b => cred (tallyAt (recvCell c k b) () N)))

/-- What the launch keeps for the region … -/
def kept (c : Dev nD) : sProp 𝕄 := iprop((∃ K, records m K ∗ linear c) ∗ credits c)

/-- … and what it is once the device's own cells are open. -/
def opened (c : Dev nD) : sProp 𝕄 :=
  iprop((∃ K, records m K) ∗ levAts L lv ∗ (cred (tallyAt (barCell c) () 3) ∗ atPos ER (barCell c) 0 ∅ 0)
    ∗ (dutyTok ER (barCell (pe c 0)) 0 (0 : Fin 3).rev ∗ dutyTok ER (barCell (pe c 1)) 0 (1 : Fin 3).rev ∗ dutyTok ER (barCell (pe c 2)) 0 (2 : Fin 3).rev)
    ∗ each (fun k b => reached ER (recvCell c k b) 0) ∗ each (fun k b => copyIn c k b) ∗ each (fun k b => recvIn c k b))

/-- The scratch, at contents not named, and the generator register. -/
def scratch (c : Dev nD) : sProp 𝕄 := iprop(∃ f : Buf (Elt F) ((c : Thread nD τ).loc cc0_scratch0), ((c : Thread nD τ).loc cc0_scratch0) ↦{fullShare} f)

/-- The counters of the kernel's semaphores, all zero. -/
def zeros (c : Dev nD) : sProp 𝕄 := iprop(each (fun k b => semVal (sendCell c k b) 0) ∗ each (fun k b => semVal (recvCell c k b) 0))

/-- Opening one device's cells of one kind. -/
theorem open_each {K : GSem nD τ sig → ℕ} (g : Fin 3 → Fin 2 → GSem nD τ sig) (hg : ∀ k b, g k b ∈ barCells ∪ scCells) :
    iprop(records (F := F) m K ∗ each (fun k b => iprop(openTok ER (g k b) ∗ semVal (g k b) 0)))
      ⊢ |={Set.univ}=> each (fun k b => iprop(atPos ER (g k b) 0 ∅ 0 ∗ reached ER (g k b) 0)) := by
  refine BI.Entails.trans (bigSep_with_persistent (R := records m K) (Ψ := fun p : Fin 3 × Fin 2 =>
    iprop(|={Set.univ}=> (atPos ER (g p.1 p.2) 0 ∅ 0 ∗ reached ER (g p.1 p.2) 0))) fun p _ => ?_) (bigSep_fupd _ _)
  iintro ⟨#HR, Ho, Hv⟩
  iapply (Rounds.cell_open ER (rd m) (g := g p.1 p.2) (Set.mem_univ (K (g p.1 p.2))))
  isplitr; · iapply (records_inv m (hg p.1 p.2)); iexact HR
  isplitl [Ho] <;> iassumption

theorem open_cells (c : Dev nD) :
    iprop(kept m c ∗ Pipeline.ownSems0 (τ := τ) osem c ∗ levAts L lv) ⊢ (|={Set.univ}=> opened m c : sProp 𝕄) := by
  unfold Pipeline.ownSems0
  rw [over_cells c (fun g => semVal g 0)]
  unfold kept linear payToks credits opened
  iintro ⟨⟨⟨%K, #HR, HaB, ⟨HoS, HoV⟩, Hbt, HtS, HtV⟩, HcB, HcV⟩, ⟨HvS, HvV⟩, #Hlev⟩
  imod (open_each m (sendCell c) (send_mem c)) $$ [HoS HvS] with HS
  · isplitr; · iexact HR
    rw [each_sep]; isplitl [HoS] <;> iassumption
  imod (open_each m (recvCell c) (recv_mem c)) $$ [HoV HvV] with HV
  · isplitr; · iexact HR
    rw [each_sep]; isplitl [HoV] <;> iassumption
  ihave HS' := (Entails.of_eq (each_sep (fun k b => atPos ER (sendCell c k b) 0 ∅ 0) (fun k b => reached ER (sendCell c k b) 0))) $$ HS
  ihave HV' := (Entails.of_eq (each_sep (fun k b => atPos ER (recvCell c k b) 0 ∅ 0) (fun k b => reached ER (recvCell c k b) 0))) $$ HV
  icases HS' with ⟨HaS, HrS⟩
  icases HV' with ⟨HaV, HrV⟩
  imodintro
  isplitr; · iexists K; iexact HR
  isplitr; · iexact Hlev
  isplitl [HcB HaB]; · isplitl [HcB] <;> iassumption
  isplitl [Hbt]; · iexact Hbt
  isplitl [HrV]; · iexact HrV
  unfold copyIn recvIn
  rw [each_sep, each_sep, each_sep, each_sep]
  isplitl [HtS HrS HtV HaS]
  · isplitl [HtS]; · iexact HtS
    isplitl [HrS]; · iexact HrS
    isplitl [HtV] <;> iassumption
  isplitl [HaV] <;> iassumption

/-! ## The proof data of the pipeline -/

/-- What the region leaves in the arrays: in its result array the gathered contexts. -/
def outs : Outs (F := F) := fun _ r c => if h : r = main_v14 then h ▸ G m else V1 m c r
theorem outs_v14 (c : Dev nD) : outs m 2 main_v14 c = G m := by unfold outs; rw [dif_pos rfl]

/-- The valuation that the region leaves. -/
abbrev V2' (c : Dev nD) : Valuation τ sig (Elt F) := V2 m (outs m) c
theorem V2_v14 (c : Dev nD) : V2' m c (Proc.devRef .tc main_v14) = G m := by
  show Function.update (V1 m c) (Proc.devRef .tc main_v14) (outs m 2 main_v14 c) (Proc.devRef .tc main_v14) = G m
  rw [Function.update_self, outs_v14]

/-- What a device owes before (`0`) and after the one point … -/
def owedAt (c : Dev nD) : ℕ → CellTallies nD τ sig Unit
  | 0 => O₀ c
  | _ + 1 => 0
/-- … and what the region's invariant holds then. -/
def invAt (c : Dev nD) : ℕ → sProp 𝕄
  | 0 => iprop(opened m c ∗ scratch c ∗ ∃ r, prngReg c r)
  | _ + 1 => iprop((semVal (barCell c) 0 ∗ zeros c) ∗ scratch c ∗ ∃ r, prngReg c r)

/-- The three inputs are staged whole, and the result's staging buffer leaves the point at the gathered contexts. -/
def dat (c : Dev nD) : Dat τ (Elt F) Unit ℕ UU ℕ cfg0 c where
  A w := V1 m c (Proc.devRef .tc (Pipeline.arrRef spec0 w))
  after w _ := match w with
    | ⟨0, _⟩ => V1 m c main_v11
    | ⟨1, _⟩ => V1 m c main_v12
    | ⟨2, _⟩ => V1 m c main_v13
    | ⟨3, _⟩ => G m
  Φ t := invAt m c t.val
  q _ := fullShare
  owed t := owedAt c t.val

def pdats (_ : Fin 1) (c : Dev nD) : Dat τ (Elt F) Unit ℕ UU ℕ cfg0 c := dat m c

theorem last_eq : (Fin.last cfg0.N).val = 1 := by rw [Fin.val_last]; exact N_0
theorem Φ_last (c : Dev nD) : (dat m c).Φ (Fin.last cfg0.N) = iprop((semVal (barCell c) 0 ∗ zeros c) ∗ scratch c ∗ ∃ r, prngReg c r) :=
  congrArg (invAt m c) last_eq
theorem owed_last (c : Dev nD) : (dat m c).owed (Fin.last cfg0.N) = 0 := congrArg (owedAt c) last_eq

/-- The record of waits that the pipeline carries, left open … -/
theorem owing_in (c : Dev nD) (t : Fin (cfg0.N + 1)) : ((dat m c).owesAt () t : sProp 𝕄) ⊢ owing c ((dat m c).owed t) := by
  unfold Dat.owesAt Pipeline.owesWithin owing
  iintro ⟨%W, -, HO⟩; iexists W; iexact HO
/-- … and closed again. -/
theorem owing_out (c : Dev nD) (t : Fin (cfg0.N + 1)) : owing c ((dat m c).owed t) ⊢ ((dat m c).owesAt () t : sProp 𝕄) := by
  unfold Dat.owesAt Pipeline.owesWithin Dat.bound owing
  iintro ⟨%W, HO⟩; iexists W
  isplitr; · ipureintro; exact fun _ _ => Or.inl trivial
  iexact HO

/-! ## A window that is the whole array -/

theorem before_0 (c : Dev nD) (d) : (dat m c).before (0 : Fin 4) t0_0 d = V1 m c main_v11 := by
  unfold Dat.before
  rw [if_pos (fetch0_0 t0_0)]
  refine funext fun (i : S2x128x256.Idx) => congrArg (V1 m c main_v11 : FVec F S2x128x256 .bf16) (funext fun a => Fin.ext ?_)
  match a with
  | 0 => show 0 * 2 + 1 * (i 0).val = (i 0).val; omega
  | 1 => show 0 * 128 + 1 * (i 1).val = (i 1).val; omega
  | 2 => show 0 * 256 + 1 * (i 2).val = (i 2).val; omega
theorem before_1 (c : Dev nD) (d) : (dat m c).before (1 : Fin 4) t0_0 d = V1 m c main_v12 := by
  unfold Dat.before
  rw [if_pos (fetch0_1 t0_0)]
  refine funext fun (i : S2x4x64x128.Idx) => congrArg (V1 m c main_v12 : FVec F S2x4x64x128 .bf16) (funext fun a => Fin.ext ?_)
  match a with
  | 0 => show 0 * 2 + 1 * (i 0).val = (i 0).val; omega
  | 1 => show 0 * 4 + 1 * (i 1).val = (i 1).val; omega
  | 2 => show 0 * 64 + 1 * (i 2).val = (i 2).val; omega
  | 3 => show 0 * 128 + 1 * (i 3).val = (i 3).val; omega
theorem before_2 (c : Dev nD) (d) : (dat m c).before (2 : Fin 4) t0_0 d = V1 m c main_v13 := by
  unfold Dat.before
  rw [if_pos (fetch0_2 t0_0)]
  refine funext fun (i : S2x4x64x128.Idx) => congrArg (V1 m c main_v13 : FVec F S2x4x64x128 .bf16) (funext fun a => Fin.ext ?_)
  match a with
  | 0 => show 0 * 2 + 1 * (i 0).val = (i 0).val; omega
  | 1 => show 0 * 4 + 1 * (i 1).val = (i 1).val; omega
  | 2 => show 0 * 64 + 1 * (i 2).val = (i 2).val; omega
  | 3 => show 0 * 128 + 1 * (i 3).val = (i 3).val; omega

/-- A write of the whole result array leaves what it writes. -/
theorem write_v14 (f w : FVec F S2x128x1024 .bf16) (t : Fin cfg0.N) :
    (win0_3.blk t).view.write (Elt F) f w Finset.univ = w := by
  refine funext fun (i : S2x128x1024.Idx) => ?_
  have e : (win0_3.blk t).view.emb i = i := funext fun a => Fin.ext (match a with
    | 0 => (show 0 * 2 + 1 * (i 0).val = (i 0).val by omega)
    | 1 => (show 0 * 128 + 1 * (i 1).val = (i 1).val by omega)
    | 2 => (show 0 * 1024 + 1 * (i 2).val = (i 2).val by omega))
  refine (congrArg _ e.symm).trans ((View.write_emb_of_mem _ _ (Finset.mem_univ i)).trans rfl)

theorem final_v14 (c : Dev nD) : (dat m c).arrAt (3 : Fin 4) cfg0.N = G m := by
  rw [show cfg0.N = t0_0.val + 1 from N_0, Dat.arrAt_succ, if_pos (flush0_3 t0_0)]
  exact write_v14 _ _ _

/-! ## The body -/

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer, whole, at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the pipeline calls the body with, and what it is to be given back. -/
def pointIn (c : Dev nD) : sProp 𝕄 :=
  iprop(invAt m c 0 ∗ (dat m c).owesAt () t0_0.castSucc
    ∗ (∃ d, stg c cc0_stg0_0 ((dat m c).before (0 : Fin 4) t0_0 d)) ∗ (∃ d, stg c cc0_stg1_0 ((dat m c).before (1 : Fin 4) t0_0 d))
    ∗ (∃ d, stg c cc0_stg2_0 ((dat m c).before (2 : Fin 4) t0_0 d)) ∗ ∃ d, stg c cc0_stg3_0 ((dat m c).before (3 : Fin 4) t0_0 d))
def pointOut (c : Dev nD) : sProp 𝕄 :=
  iprop(invAt m c 1 ∗ (dat m c).owesAt () t0_0.succ
    ∗ stg c cc0_stg0_0 (V1 m c main_v11) ∗ stg c cc0_stg1_0 (V1 m c main_v12) ∗ stg c cc0_stg2_0 (V1 m c main_v13) ∗ stg c cc0_stg3_0 (G m))

theorem point_run (c : Dev nD) :
    pointIn m c ⊢ wp frame (wpE (defs₀ (F := F)) 𝒱₀ c none) Set.univ
      (cc0_body qM (Memref.isWhole_whole _) kM (Memref.isWhole_whole _) vM (Memref.isWhole_whole _) oM (Memref.isWhole_whole _) lM (Memref.isWhole_whole _)
        cc0_scratch1 cc0_scratch2) (fun _ => pointOut m c) := by
  unfold pointIn invAt opened scratch
  simp only [each_eq, before_0, before_1, before_2]
  iintro ⟨⟨⟨⟨%K, #HR⟩, #Hlev, HB, Ht, Hr, Hc, Hv⟩, Hs, Hp⟩, HO, ⟨%d0, %f0, %h0, H0⟩, ⟨%d1, %f1, %h1, H1⟩, ⟨%d2, %f2, %h2, H2⟩, ⟨%d3, %f3, %h3, H3⟩⟩
  subst h0 h1 h2
  ihave HO' := (owing_in m c t0_0.castSucc) $$ HO
  ihave Hw := (body_run m K c) $$ [HO' HB Ht Hr Hc Hv Hs H0 H1 H2 H3]
  · unfold bodyIn staged
    isplitr; · iexact HR
    isplitr; · iexact Hlev
    isplitl [HO']; · iexact HO'
    isplitl [HB]; · iexact HB
    isplitl [Ht]; · iexact Ht
    isplitl [Hr]; · iexact Hr
    isplitl [Hc]; · iexact Hc
    isplitl [Hv]; · iexact Hv
    isplitl [H0 H1 H2]
    · isplitl [H0]; · iexact H0
      isplitl [H1] <;> iassumption
    isplitl [H3]; · iexists f3; iexact H3
    iexact Hs
  iapply (wp_wand) $$ Hw
  iintro %a Hout
  unfold bodyOut staged
  icases Hout with ⟨HO, Hb, HzS, HzV, ⟨H0, H1, H2⟩, H3, Hs⟩
  unfold pointOut invAt zeros scratch
  rw [each_eq, each_eq]
  isplitl [Hb HzS HzV Hs Hp]
  · isplitl [Hb HzS HzV]
    · isplitl [Hb]; · iexact Hb
      isplitl [HzS] <;> iassumption
    isplitl [Hs]; · iexact Hs
    iexact Hp
  isplitl [HO]; · iapply (owing_out m c t0_0.succ); iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  iexists _; isplitr; · (ipureintro; rfl)
  iexact H3

theorem body_obligation (c : Dev nD) : BodyObligation (dat (F := F) m c) (defs₀ (F := F)) 𝒱₀ () Set.univ := fun t => by
  rw [fin_N0 t, bigSep_W0, bigSep_W0]
  simp only [owns_whole]
  exact point_run m c

/-! ## The record -/

theorem share_eq (c : Dev nD) (w : Fin cfg0.W) : (dat (F := F) m c).share w = fullShare := by unfold Dat.share; split <;> rfl

theorem osem_facts : Pipeline.OwnSemFacts spec0 osem := by decide

theorem layout : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Levels: the staging semaphores lie at 0, below all that a device owes. -/
theorem cut_owed (c : Dev nD) (t : Fin (cfg0.N + 1)) (g : GSem nD τ sig) (u : Unit) (h : 0 < (dat (F := F) m c).owed t g u) : u ∈ L g ∧ (0 : ℕ) < lv g u := by
  change 0 < owedAt c t.val g u at h
  obtain ⟨n, hn⟩ := t
  cases n with
  | zero => exact cut c g u h
  | succ n => exact absurd h (Nat.lt_irrefl 0)

theorem stage_lv (c : Dev nD) (w : Fin 4) (s : Fin (win0 w).nbuf) : lv ((c : Thread nD τ), .dma ((win0 w).sem s)) () ≤ 0 := by
  have h : ¬ IsBar (.dma ((win0 w).sem s) : SemLoc sig) ∧ ¬ IsRecv (.dma ((win0 w).sem s) : SemLoc sig) := by revert w s; decide
  unfold lv
  rw [if_neg h.1, if_neg h.2]

/-- The buffers of the program that are no array of the region. -/
abbrev others : Finset (DevRef τ sig) := Pipeline.ucRefs τ sig \ Pipeline.arrRefs spec0

theorem region_in (c : Dev nD) : iprop(Pipeline.scopedRest spec0 c ∗ (∃ r, prngReg c r) ∗ StableHlo.held (c.tc : Thread nD τ) ∅ (V1 m c) ∗ opened m c)
    ⊢ (dat m c).Φ 0 := by
  show _ ⊢ iprop(opened m c ∗ scratch c ∗ ∃ r, prngReg c r)
  rw [scopedRest0_eq]
  unfold scratch
  iintro ⟨Hs, Hp, -, Ho⟩
  isplitl [Ho]; · iexact Ho
  isplitl [Hs] <;> iassumption

theorem region_out (c : Dev nD) : (dat m c).Φ (Fin.last cfg0.N)
    ⊢ iprop(Pipeline.scopedRest spec0 c ∗ (∃ r, prngReg c r) ∗ StableHlo.held (c.tc : Thread nD τ) ∅ (V2' m c) ∗ Pipeline.ownSems0 osem c ∗ semVal (barCell c) 0) := by
  rw [Φ_last, scopedRest0_eq]
  unfold Pipeline.ownSems0
  rw [over_cells c (fun g => semVal g 0)]
  unfold scratch zeros StableHlo.held
  rw [BI.bigSep_empty]
  iintro ⟨⟨Hb, Hz⟩, Hs, Hp⟩
  isplitl [Hs]; · iexact Hs
  isplitl [Hp]; · iexact Hp
  isplitr; · iempintro
  isplitl [Hz] <;> iassumption

theorem others_kept (c : Dev nD) (b : DevRef τ sig) (h : b ∈ others \ ∅) : V2' m c b = V1 m c b := by
  rw [Finset.sdiff_empty] at h
  refine Function.update_of_ne (fun e => (Finset.mem_sdiff.mp h).2 ?_) _ _
  rw [e]
  decide

theorem arrays_in (c : Dev nD) (w : Fin 4) : (dat m c).arrAt w 0 = V1 m c (Proc.devRef .tc (Pipeline.arrRef spec0 w)) := rfl
theorem arrays_out (c : Dev nD) (w : Fin 4) : (dat m c).arrAt w cfg0.N = V2' m c (Proc.devRef .tc (Pipeline.arrRef spec0 w)) := by
  match w with
  | 0 => exact ((dat m c).arrAt_in (0 : Fin 4) rfl _).trans (V2_of m (outs m) c main_v11 (by decide)).symm
  | 1 => exact ((dat m c).arrAt_in (1 : Fin 4) rfl _).trans (V2_of m (outs m) c main_v12 (by decide)).symm
  | 2 => exact ((dat m c).arrAt_in (2 : Fin 4) rfl _).trans (V2_of m (outs m) c main_v13 (by decide)).symm
  | 3 => exact (final_v14 m c).trans (V2_v14 m c).symm

set_option backward.isDefEq.respectTransparency.types false in
/-- The region, entered owing all that the device pays in it and left owing nothing. -/
def region : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ others (Finset.empty_subset _) layout rfl (fun c => (body_obligation m c).loose)
    (fun _ => 0) O₀ (fun c => (zero_add _).symm) (owed_last m) (fun _ => rfl) (share_eq m)
    (V1 m) (V2' m) (others_kept m)
    (kept m) (fun c => semVal (barCell c) 0) (opened m) (fun c => semVal (barCell c) 0) (open_cells m) (region_in m) (region_out m)
    (fun c => by iintro H; imodintro; iexact H)
    (fun _ => 0) ⟨fun c w s => by rw [L_tc]; exact Finset.mem_singleton_self _, fun c w s => stage_lv c w s, fun c t g i h => cut_owed m c t g i h⟩
    (fun _ => iprop(emp)) (arrays_in m) (arrays_out m)

end Cert.GatherAttn

end
-- ==== Proof.Launch.lean ====
/-
  The LAUNCH and the run: the exchange's ghost state, made once and dealt to the four devices, and the theorem that
  every execution of the kernel's program ends, with what its memory then holds.
-/
module

public import proofs.«01_k».proof.Proof.Region

@[expose] public section

set_option maxRecDepth 16384

noncomputable section

namespace Cert.GatherAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

local notation "𝕄" => MT nD τ sig Unit (Elt F) ℕ UU ℕ

variable (m : (ℓ : Loc nD τ sig) → Buf (Elt F) ℓ)

/-! ## The region between the host's operations -/

/-- What rides beside the program's buffers before the region, and after it. -/
def beside (i : Fin 2) (c : Dev nD) : sProp 𝕄 :=
  match i with
  | 0 => iprop(kept m c ∗ (∃ r, prngReg c r) ∗ ∃ W, owes (c : Thread nD τ) (O₀ c) W)
  | 1 => iprop(semVal (barCell c) 0 ∗ ∃ W, owes (c : Thread nD τ) (0 : CellTallies nD τ sig Unit) W)

theorem arrays_sub : Pipeline.arrRefs (τ := τ) spec0 ⊆ Pipeline.ucRefs τ sig := by decide

theorem before_region (c : Dev nD) : iprop(StableHlo.held (c : Thread nD τ) (Pipeline.ucRefs τ sig) (V1 m c) ∗ beside m 0 c) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ kept m c ∗ ∃ Wd, owes (c : Thread nD τ) (0 + O₀ c) Wd)
  rw [StableHlo.held_sub_split (c : Thread nD τ) arrays_sub (V1 m c), zero_add]
  unfold beside
  iintro ⟨⟨Ha, Ho⟩, Hk, Hp, HO⟩
  isplitl [Ha]; · iexact Ha
  isplitl [Hp]; · iexact Hp
  isplitl [Ho]
  · isplitl [Ho]; · iexact Ho
    iempintro
  isplitl [Hk] <;> iassumption

theorem after_region (c : Dev nD) : (region m).post c ⊢ iprop(StableHlo.held (c : Thread nD τ) (Pipeline.ucRefs τ sig) (V2' m c) ∗ beside m 1 c) := by
  show iprop(StableHlo.held (c.tc : Thread nD τ) (Pipeline.arrRefs (τ := τ) spec0) (V2' m c) ∗ (∃ r, prngReg c r)
    ∗ (StableHlo.held (c.tc : Thread nD τ) others (V2' m c) ∗ emp) ∗ semVal (barCell c) 0 ∗ ∃ Wd, owes (c : Thread nD τ) (0 : CellTallies nD τ sig Unit) Wd) ⊢ _
  rw [StableHlo.held_sub_split (c : Thread nD τ) arrays_sub (V2' m c)]
  unfold beside
  iintro ⟨Ha, -, ⟨Ho, -⟩, Hb, HO⟩
  isplitl [Ha Ho]; · isplitl [Ha] <;> iassumption
  isplitl [Hb] <;> iassumption

/-! ## The tokens -/

/-- Every duty of a device's cells: its barrier's three, and one at each send and receive cell. -/
abbrev dutyOf (c : Dev nD) : Fin 3 ⊕ (Fin 2 × Fin 3 × Fin 2) → GSem nD τ sig × ℕ × Fin 3
  | .inl d => (barCell c, 0, d)
  | .inr p => (((c : Thread nD τ), osem p), 0, 0)

theorem dutyOf_inj : Function.Injective fun p : Dev nD × (Fin 3 ⊕ (Fin 2 × Fin 3 × Fin 2)) => dutyOf p.1 p.2 := by
  rintro ⟨c, x⟩ ⟨c', x'⟩ h
  have h1 : c = c' := by
    have := congrArg (fun t : GSem nD τ sig × ℕ × Fin 3 => t.1.1.1) h
    cases x <;> cases x' <;> exact this
  subst h1
  refine congrArg (Prod.mk c) ?_
  cases x with
  | inl d =>
    cases x' with
    | inl d' => exact congrArg Sum.inl (congrArg (fun t : GSem nD τ sig × ℕ × Fin 3 => t.2.2) h)
    | inr p' => exact absurd (congrArg (fun t : GSem nD τ sig × ℕ × Fin 3 => t.1.2) h) (fun h' => by cases h')
  | inr p =>
    cases x' with
    | inl d' => exact absurd (congrArg (fun t : GSem nD τ sig × ℕ × Fin 3 => t.1.2) h) (fun h' => by cases h')
    | inr p' =>
      exact congrArg Sum.inr (scSem_inj (SemLoc.dma.inj (congrArg (fun t : GSem nD τ sig × ℕ × Fin 3 => t.1.2) h)))

def allDuties : Finset (GSem nD τ sig × ℕ × Fin 3) := Finset.univ.map ⟨_, dutyOf_inj⟩

/-- The tokens of a device's own cells. -/
def ownToks (c : Dev nD) : sProp 𝕄 :=
  iprop((bigSep Finset.univ fun d : Fin 3 => dutyTok ER (barCell c) 0 d)
    ∗ each (fun k b => dutyTok ER (sendCell c k b) 0 0) ∗ each (fun k b => dutyTok ER (recvCell c k b) 0 0))

theorem toks_eq : bigSep allDuties (fun x => (dutyTok ER x.1 x.2.1 x.2.2 : sProp 𝕄)) = bigSep Finset.univ fun c : Dev nD => ownToks c := by
  unfold allDuties
  rw [bigSep_map, bigSep_univ_prod]
  refine bigSep_congr fun c _ => ?_
  unfold ownToks
  rw [bigSep_univ_sum, ← over_cells c (fun g => dutyTok ER g 0 0)]
  rfl

/-- A barrier duty goes from its cell's device to the device that pays it, which is as far from it the other way. -/
def payerBar : Dev nD × Fin 3 ≃ Dev nD × Fin 3 where
  toFun x := (pe x.1 x.2, x.2.rev)
  invFun x := (pe x.1 x.2, x.2.rev)
  left_inv x := Prod.ext (pe_rev x.1 x.2) (Fin.rev_rev x.2)
  right_inv x := Prod.ext (pe_rev x.1 x.2) (Fin.rev_rev x.2)
/-- A receive duty goes to the device that sends the copy. -/
def payerRecv : Dev nD × (Fin 3 × Fin 2) ≃ Dev nD × (Fin 3 × Fin 2) where
  toFun x := (pe x.1 x.2.1, x.2)
  invFun x := (pe x.1 x.2.1.rev, x.2)
  left_inv x := Prod.ext (pe_rev x.1 x.2.1) rfl
  right_inv x := Prod.ext (pe_rev' x.1 x.2.1) rfl

theorem deal_bar : (bigSep Finset.univ fun c : Dev nD => bigSep Finset.univ fun d : Fin 3 => (dutyTok ER (barCell c) 0 d : sProp 𝕄))
    = bigSep Finset.univ fun c : Dev nD => iprop(dutyTok ER (barCell (pe c 0)) 0 (0 : Fin 3).rev ∗ dutyTok ER (barCell (pe c 1)) 0 (1 : Fin 3).rev
        ∗ dutyTok ER (barCell (pe c 2)) 0 (2 : Fin 3).rev) := by
  rw [← bigSep_univ_prod (fun x : Dev nD × Fin 3 => (dutyTok ER (barCell x.1) 0 x.2 : sProp 𝕄)), bigSep_univ_equiv payerBar, bigSep_univ_prod]
  exact bigSep_congr fun c _ => bigSep_univ_eq_bigSepL [0, 1, 2] (by decide) (by decide) fun d : Fin 3 => (dutyTok ER (barCell (pe c d)) 0 d.rev : sProp 𝕄)

theorem deal_recv : (bigSep Finset.univ fun c : Dev nD => each fun k b => (dutyTok ER (recvCell c k b) 0 0 : sProp 𝕄))
    = bigSep Finset.univ fun c : Dev nD => each fun k b => dutyTok ER (recvCell (pe c k) k b) 0 0 := by
  unfold each
  rw [← bigSep_univ_prod (fun x : Dev nD × (Fin 3 × Fin 2) => (dutyTok ER (recvCell x.1 x.2.1 x.2.2) 0 0 : sProp 𝕄)), bigSep_univ_equiv payerRecv, bigSep_univ_prod]
  exact bigSep_congr fun c _ => bigSep_congr fun p _ => rfl

/-- Every token to the device that pays with it. -/
theorem deal_toks : (bigSep Finset.univ fun c : Dev nD => (ownToks c : sProp 𝕄)) = bigSep Finset.univ fun c : Dev nD => payToks c := by
  unfold ownToks payToks
  rw [bigSep_sep' Finset.univ (fun c : Dev nD => bigSep Finset.univ fun d : Fin 3 => (dutyTok ER (barCell c) 0 d : sProp 𝕄)), bigSep_sep', deal_bar, deal_recv,
    ← bigSep_sep', ← bigSep_sep']

/-! ## The credit at launch -/

theorem recv_cell_inj {e c : Dev nD} {k k' : Fin 3} {b b' : Fin 2} (h : recvCell c k b = recvCell e k' b') : c = e ∧ k = k' ∧ b = b' := by
  refine ⟨congrArg (fun g : GSem nD τ sig => g.1.1) h, ?_⟩
  have := SemLoc.dma.inj (congrArg Prod.snd h)
  clear h; revert k k' b b'; decide

theorem tally_add (a b : CellTallies nD τ sig Unit) (g : GSem nD τ sig) : (a + b) g () = a g () + b g () := by
  rw [Pi.add_apply, Finsupp.add_apply]

/-- What a device owes at a barrier cell, and at a receive cell, of any device. -/
theorem bar_at_bar (d c : Dev nD) (k : Fin 3) : oweBar d k (barCell c) () = if c = pe d k then 1 else 0 := by
  unfold oweBar; rw [tallyAt_apply]
  by_cases h : c = pe d k
  · rw [if_pos h, if_pos ⟨congrArg barCell h, rfl⟩]
  · rw [if_neg h, if_neg fun h' => h (congrArg (fun g : GSem nD τ sig => g.1.1) h'.1)]
theorem recv_at_recv (d c : Dev nD) (k k' : Fin 3) (b b' : Fin 2) :
    oweRecv d k' b' (recvCell c k b) () = if c = pe d k' ∧ k = k' ∧ b = b' then N else 0 := by
  unfold oweRecv; rw [tallyAt_apply]
  by_cases h : c = pe d k' ∧ k = k' ∧ b = b'
  · rw [if_pos h]; obtain ⟨rfl, rfl, rfl⟩ := h; exact if_pos ⟨rfl, rfl⟩
  · rw [if_neg h, if_neg fun h' => h (recv_cell_inj h'.1)]
theorem bar_at_recv (d c : Dev nD) (k k' : Fin 3) (b : Fin 2) : oweBar d k' (recvCell c k b) () = 0 := by
  unfold oweBar; rw [tallyAt_apply, if_neg fun h => recv_ne_bar k b (congrArg Prod.snd h.1)]
theorem recv_at_bar (d c : Dev nD) (k : Fin 3) (b : Fin 2) : oweRecv d k b (barCell c) () = 0 := by
  unfold oweRecv; rw [tallyAt_apply, if_neg fun h => recv_ne_bar k b (congrArg Prod.snd h.1).symm]

/-- What is owed, at one cell, copy by copy and signal by signal. -/
theorem owed_at (d : Dev nD) (g : GSem nD τ sig) : O₀ d g () =
    oweRecv d 2 1 g () + oweRecv d 1 1 g () + oweRecv d 0 1 g () + oweRecv d 2 0 g () + oweRecv d 1 0 g () + oweRecv d 0 0 g ()
      + oweBar d 2 g () + oweBar d 1 g () + oweBar d 0 g () := by
  unfold O₀ owe0 owe1
  simp only [tally_add, Pi.zero_apply, Finsupp.zero_apply, Nat.zero_add]

theorem owed_bar (d c : Dev nD) : O₀ d (barCell c) () = ((if c = pe d 2 then 1 else 0) + if c = pe d 1 then 1 else 0) + if c = pe d 0 then 1 else 0 := by
  rw [owed_at, recv_at_bar d c 2 1, recv_at_bar d c 1 1, recv_at_bar d c 0 1, recv_at_bar d c 2 0, recv_at_bar d c 1 0, recv_at_bar d c 0 0,
    bar_at_bar d c 2, bar_at_bar d c 1, bar_at_bar d c 0]
  omega

theorem owed_recv (d c : Dev nD) (k : Fin 3) (b : Fin 2) : O₀ d (recvCell c k b) () = if d = pe c k.rev then N else 0 := by
  have e : (d = pe c k.rev) ↔ (c = pe d k) := by revert d c k; decide
  rw [if_congr e rfl rfl, owed_at, recv_at_recv d c k 2 b 1, recv_at_recv d c k 1 b 1, recv_at_recv d c k 0 b 1, recv_at_recv d c k 2 b 0, recv_at_recv d c k 1 b 0,
    recv_at_recv d c k 0 b 0, bar_at_recv d c k 2 b, bar_at_recv d c k 1 b, bar_at_recv d c k 0 b]
  generalize N = n
  match k, b with
  | 0, 0 => simp
  | 1, 0 => simp
  | 2, 0 => simp
  | 0, 1 => simp
  | 1, 1 => simp
  | 2, 1 => simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (k : Fin 3) (b : Fin 2) :
    tallyOn (recvCell c k b) (launchCredit (Pipeline.owing O₀) 0 (recvCell c k b)) = (tallyAt (recvCell c k b) () N : CellTallies nD τ sig Unit) := by
  unfold tallyAt; refine congrArg _ (Finsupp.ext fun u => ?_); cases u
  rw [Pipeline.launchCredit_owing, Finsupp.single_eq_same, Finset.sum_congr rfl fun d _ => owed_recv d c k b,
    Finset.sum_ite_eq' Finset.univ (pe c k.rev) fun _ => N, if_pos (Finset.mem_univ _)]

/-- The receive semaphores among a device's. -/
def recvEmb : Fin 3 × Fin 2 ↪ SemLoc sig := ⟨fun p => .dma (recvS p.1 p.2), fun p p' h => by revert p p'; decide⟩

theorem launch_credits (c : Dev nD) : (Pipeline.launchCred O₀ c : sProp 𝕄) ⊢ credits c := by
  unfold Pipeline.launchCred credits
  rw [bigSep_univ_at _ (SemLoc.reg barS), launch_bar]
  refine sep_mono_right ?_
  refine BI.Entails.trans (bigSep_subset (t := Finset.univ.map recvEmb) fun s hs => ?_) ?_
  · obtain ⟨p, -, rfl⟩ := Finset.mem_map.mp hs
    exact Finset.mem_erase.mpr ⟨recv_ne_bar p.1 p.2, Finset.mem_univ _⟩
  · rw [bigSep_map]
    unfold each
    rw [bigSep_congr fun p _ => congrArg cred (launch_recv c p.1 p.2)]
    exact BI.Entails.refl _

/-! ## The launch -/

theorem disjoint_cells : Disjoint barCells scCells := by
  rw [Finset.disjoint_left]
  intro g h h'
  obtain ⟨c, -, rfl⟩ := Finset.mem_map.mp h
  obtain ⟨p, -, e⟩ := Finset.mem_map.mp h'
  exact absurd (congrArg Prod.snd e) (fun h => by cases h)

/-- The ghost state at launch: the pipeline's and the exchange's. -/
def u₀ : UU :=
  (initOf (Pipeline.cells cfgs cellOf_inj) (Pipeline.launchToks cfgs cellOf_inj), launchOf barCells scCells allDuties)

/-- The exchange's part of it, all on device 0 until it is dealt. -/
def parked (c : Dev nD) : sProp 𝕄 := if c = 0 then BI.own (ER (launchOf barCells scCells allDuties)) else iprop(emp)
theorem parked_eq : bigSep Finset.univ (parked (F := F)) = BI.own (ER (launchOf barCells scCells allDuties)) := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)]; rfl, BI.bigSep_emp_const]
  unfold parked; rw [if_pos rfl]
  exact BI.equiv_iff.mp sep_emp

theorem unscoped_eq : ∀ sm : SemLoc sig, sm.isScoped .tc = false → sm = .reg barS := by decide
theorem unscopedSems0_eq (c : Dev nD) : (unscopedSems0 c : sProp 𝕄) = semVal (barCell c) 0 := by
  show bigSep (Finset.univ.filter fun sm : SemLoc sig => ¬ sm.isScoped .tc) _ = _
  rw [show (Finset.univ.filter fun sm : SemLoc sig => ¬ sm.isScoped .tc) = {SemLoc.reg barS} from by decide, BI.bigSep_singleton]

/-- What a device holds as the program starts. -/
abbrev T₀ (c : Dev nD) : sProp 𝕄 := iprop(StableHlo.held (c : Thread nD τ) (Pipeline.ucRefs τ sig) (V0 m c) ∗ beside m 0 c)
/-- What it holds as the program ends. -/
abbrev Tₙ (c : Dev nD) : sProp 𝕄 := iprop(StableHlo.held (c : Thread nD τ) (Pipeline.ucRefs τ sig) (V3 m (outs m) c) ∗ semVal (barCell c) 0)

/-- What of a device's launch holdings is not of the exchange's ghost state. -/
def apart (c : Dev nD) : sProp 𝕄 :=
  iprop(StableHlo.held (c : Thread nD τ) (Pipeline.ucRefs τ sig) (V0 m c) ∗ credits c ∗ owes (c : Thread nD τ) (O₀ c) ∅ ∗ ∃ r, prngReg c r)

theorem dealt (K : GSem nD τ sig → ℕ) (c : Dev nD) : iprop(records m K ∗ (linear c ∗ apart m c)) ⊢ T₀ m c := by
  unfold apart T₀ beside kept
  iintro ⟨#HR, Hl, Hh, Hc, HO, Hp⟩
  isplitl [Hh]; · iexact Hh
  isplitl [Hl Hc]
  · isplitl [Hl]
    · iexists K; isplitr; · iexact HR
      iexact Hl
    · iexact Hc
  isplitl [Hp]; · iexact Hp
  iexists ∅; iexact HO

variable (ρ : Dev nD → PrngReg)

abbrev handed (c : Dev nD) : sProp 𝕄 :=
  iprop(unscopedBufs c (fun b => m ((c : Thread nD τ).loc b)) ∗ unscopedSems0 c ∗ owes (c : Thread nD τ) (O₀ c) ∅
    ∗ Pipeline.launchCred O₀ c ∗ prngReg c (ρ c) ∗ parked c)

theorem sorted (c : Dev nD) : handed m ρ c ⊢ (iprop(apart m c ∗ (semVal (barCell c) 0 ∗ parked c)) : sProp 𝕄) := by
  unfold handed apart
  rw [← Pipeline.unscopedBufs_held (Ix := Unit) (Name := ℕ) (U := UU) (Lvl := ℕ) c (V0 m c), unscopedSems0_eq]
  iintro ⟨Hh, Hs, HO, Hc, Hp, HG⟩
  ihave Hc' := (launch_credits (F := F) c) $$ Hc
  isplitl [Hh Hc' HO Hp]
  · isplitl [Hh]; · iexact Hh
    isplitl [Hc']; · iexact Hc'
    isplitl [HO]; · iexact HO
    iexists (ρ c); iexact Hp
  isplitl [Hs] <;> iassumption

/-- The launch: every device gets what it starts with. -/
theorem init : iprop((bigSep Finset.univ fun c : Dev nD => handed m ρ c) ∗ levAts L lv) ⊢ (|={Set.univ}=> bigSep Finset.univ (T₀ m) : sProp 𝕄) := by
  have hbar (Φ : GSem nD τ sig → sProp 𝕄) : bigSep barCells Φ = bigSep Finset.univ fun c : Dev nD => Φ (barCell c) := bigSep_map _
  have hopen : bigSep scCells (fun g => (openTok ER g : sProp 𝕄))
      = bigSep Finset.univ fun c : Dev nD => iprop(each (fun k b => openTok ER (sendCell c k b)) ∗ each (fun k b => openTok ER (recvCell c k b))) := by
    unfold scCells
    rw [bigSep_map, bigSep_univ_prod]
    exact bigSep_congr fun c _ => over_cells c (fun g => openTok ER g)
  iintro ⟨H, -⟩
  ihave H' := (show (bigSep Finset.univ fun c : Dev nD => handed m ρ c)
    ⊢ (bigSep Finset.univ fun c : Dev nD => iprop(apart m c ∗ (semVal (barCell c) 0 ∗ parked c)) : sProp 𝕄) from bigSep_mono fun c _ => sorted m ρ c) $$ H
  ihave H2 := (Entails.of_eq (bigSep_sep' _ _ _)) $$ H'; icases H2 with ⟨HA, H3⟩
  ihave H4 := (Entails.of_eq (bigSep_sep' _ _ _)) $$ H3; icases H4 with ⟨Hv, HG⟩
  ihave Hu := (Entails.of_eq (parked_eq (F := F))) $$ HG
  imod (Rounds.fund_launch ER (rd m) disjoint_cells (fun g _ h => h) allDuties) $$ [Hv Hu] with ⟨%K, -, #Hinv, #Hr, Hat, Hopen, Htok⟩
  · isplitl [Hv]
    · iapply (Entails.of_eq (hbar (fun g => semVal g 0)).symm) $$ Hv
    · iexact Hu
  imodintro
  iapply (bigSep_with_persistent (R := records m K) (Φ := fun c => iprop(linear c ∗ apart m c)) fun c _ => dealt m K c)
  isplitr
  · unfold records
    isplitr; · iexact Hinv
    iexact Hr
  iapply (Entails.of_eq (bigSep_sep' _ _ _).symm)
  isplitr [HA]
  · unfold linear
    iapply (Entails.of_eq (bigSep_sep' _ _ _).symm); isplitl [Hat]; · iapply (Entails.of_eq (hbar (fun g => atPos ER g 0 ∅ 0))) $$ Hat
    iapply (Entails.of_eq (bigSep_sep' _ _ _).symm); isplitl [Hopen]; · iapply (Entails.of_eq hopen) $$ Hopen
    iapply (Entails.of_eq (toks_eq.trans (deal_toks (F := F)))) $$ Htok
  · iexact HA

/-! ## The run -/

set_option backward.isDefEq.respectTransparency.types false in
/-- The run: from any memory and any generator registers, with every counter at zero, every execution of the program on
    the four devices ends; then each device's result is what its last host operation makes of the gathered contexts and
    of its `Wo`, its arguments hold what they held, and every counter of the machine is at zero. -/
theorem run_main : θ_run defs (onTc (τ := τ) (main (F := F))) ⟨m, fun _ => 0, ρ⟩
    (fun r => (∀ c : Dev nD,
        r.2.mem ((c : Thread nD τ).loc main_v15) = V3 m (outs m) c main_v15
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  Pipeline.θ_run_regions_kit_dev_sems (pcfgs (F := F)) adm (pdats m) () cellOf_inj EP defs₀ 𝒱₀ L lv m ρ main
    (segs m (outs m) 𝒱₀ L lv (beside m) () (pdats m) (region m))
    (fun c Q => by
      rewrite [main_chain c, Seg.run_eq_chain,
        show (segs m (outs m) 𝒱₀ L lv (beside m) () (pdats m) (region m) c).map Seg.prog = [StableHlo.seq (hostOps0 c), Prog.lift (.customCall (Pipeline.entry 0) ()),
          StableHlo.seq hostOps1] from rfl]
      dsimp (config := { failIfUnchanged := false }) only
      exact .rfl)
    (fun c => by simp only [segs, Seg.pipes_host, Seg.pipes_region, Seg.pipes_nil]; decide) O₀ L_of_ne parked u₀
    (by
      unfold u₀
      iintro Hu
      ihave H := (ownU_pair _ _) $$ Hu
      icases H with ⟨HP, HX⟩
      imodintro
      isplitl [HP]; · iexact HP
      rw [parked_eq]; iexact HX)
    (T₀ := T₀ m) (Tₙ := Tₙ m)
    (hch := fun c => ⟨.rfl, before_region m c, after_region m c, by
      show iprop(StableHlo.held (c : Thread nD τ) (Pipeline.ucRefs τ sig) (V3 m (outs m) c)
          ∗ (semVal (barCell c) 0 ∗ ∃ W, owes (c : Thread nD τ) (0 : CellTallies nD τ sig Unit) W))
        ⊢ iprop(Tₙ m c ∗ ∃ W, owes (c : Thread nD τ) (0 : CellTallies nD τ sig Unit) W)
      iintro ⟨Hh, Hb, HO⟩
      isplitr [HO]
      · isplitl [Hh] <;> iassumption
      · iexact HO⟩)
    (hinit := init m ρ)
    (QY := fun c s => (s.mem ((c : Thread nD τ).loc main_v15) = V3 m (outs m) c main_v15
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)) ∧ s.sem (barCell c) = 0)
    (hfin := fun c s' => by
      dsimp only [Tₙ]
      unfold StableHlo.held
      iintro ⟨⟨Hh, Hb⟩, HSI⟩
      icombine HSI Hb gives %hb
      ihave Hr := (pointsTo_read_all (Pipeline.ucRefs τ sig) (fun b => ((c : Thread nD τ).1, b)) (V3 m (outs m) c) s') $$ [Hh HSI]
      · isplitl [Hh] <;> iassumption
      icases Hr with ⟨%h, HSI⟩
      imodintro
      isplitr
      · ipureintro
        have at_ (b : Ref sig .tc) (hb : Proc.devRef (τ := τ) .tc b ∈ Pipeline.ucRefs τ sig) := h (Proc.devRef .tc b) hb
        exact ⟨⟨at_ main_v15 (by decide), (at_ main_arg0 (by decide)).trans (V3_main_arg0 m (outs m) c), (at_ main_arg1 (by decide)).trans (V3_main_arg1 m (outs m) c),
          (at_ main_arg2 (by decide)).trans (V3_main_arg2 m (outs m) c), (at_ main_arg3 (by decide)).trans (V3_main_arg3 m (outs m) c),
          (at_ main_arg4 (by decide)).trans (V3_main_arg4 m (outs m) c)⟩, by simpa using hb⟩
      iexact HSI)
    (hQ := fun s h hs => ⟨fun c => (h c).1, sem_eq_zero hs fun c sm hsm => by
      obtain rfl := unscoped_eq sm hsm
      exact (h c).2⟩)

/-- The run with the result dropped: the frame of the program, over any float values. -/
theorem run_frame : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => (h.1 c).2, h.2⟩) (run_main m ρ)

end Cert.GatherAttn

end
-- ==== Proof.Spec.lean ====
/-
  What both programs compute, over the extended reals, element by element: sixteen heads of block-masked attention and
  the product of their contexts, side by side, with the output weights.
-/
module

public import Idealize.ShloMosaic.Lib.Pointwise

@[expose] public section

noncomputable section

namespace Cert.GatherAttn.Spec

open Idealize.ShloMosaic

/-- A score of one head: inside the query's block of 64 positions the product of the query and the key, scaled by 1/8;
    outside it the constant -1e9. -/
def score (q k : Fin 128 → Fin 64 → EReal) (i j : Fin 128) : EReal :=
  Scalar.select (if i.val / 64 = j.val / 64 then 1#1 else 0#1) ((∑ d : Fin 64, q i d * k j d) * Ideal.ofBits .f32 0x3E000000#32)
    (Ideal.ofBits .f32 0xCE6E6B28#32)

/-- The exponential of a score less the largest of its row. -/
def weight (q k : Fin 128 → Fin 64 → EReal) (i j : Fin 128) : EReal :=
  Ideal.exp (score q k i j - Finset.fold max (Ideal.ofBits .f32 0xFF800000#32) (fun l => score q k i l) Finset.univ)

/-- One head at query `i` and column `d`: the values' column, weighted by the softmax of the query's row. -/
def head (q k v : Fin 128 → Fin 64 → EReal) (i : Fin 128) (d : Fin 64) : EReal :=
  ∑ j : Fin 128, Ideal.div (weight q k i j) (∑ l : Fin 128, weight q k i l) * v j d

/-- The queries of batch `b` and head `h`. -/
def query (x : FVec Ideal ⟨3, ![2, 128, 512]⟩ .bf16) (wq : FVec Ideal ⟨2, ![512, 1024]⟩ .bf16) (b : Fin 2) (h : Fin 16) (i : Fin 128) (d : Fin 64) : EReal :=
  ∑ t : Fin 512, x (ix3 b i t) * wq (ix2 t ⟨h.val * 64 + d.val, by omega⟩)

/-- Head `h` of batch `b` from the whole arrays. -/
def headOf (x : FVec Ideal ⟨3, ![2, 128, 512]⟩ .bf16) (wq : FVec Ideal ⟨2, ![512, 1024]⟩ .bf16) (k v : FVec Ideal ⟨4, ![2, 128, 16, 64]⟩ .bf16)
    (b : Fin 2) (h : Fin 16) : Fin 128 → Fin 64 → EReal :=
  head (query x wq b h) (fun j d => k (ix4 b j h d)) (fun j d => v (ix4 b j h d))

/-- The result at an index: column `n` of the context is column `n % 64` of head `n / 64`. -/
def result (x : FVec Ideal ⟨3, ![2, 128, 512]⟩ .bf16) (wq : FVec Ideal ⟨2, ![512, 1024]⟩ .bf16) (k v : FVec Ideal ⟨4, ![2, 128, 16, 64]⟩ .bf16)
    (wo : FVec Ideal ⟨2, ![1024, 512]⟩ .bf16) (b : Fin 2) (i : Fin 128) (o : Fin 512) : EReal :=
  ∑ n : Fin 1024, headOf x wq k v b ⟨n.val / 64, by omega⟩ i ⟨n.val % 64, Nat.mod_lt _ (by decide)⟩ * wo (ix2 n o)

end Cert.GatherAttn.Spec

end
-- ==== Proof.Reference.lean ====
/-
  The REFERENCE's result read at an index.

  The reference's composed term is named stage by stage (the blocks of 64 positions, the mask, the queries, the masked
  scores, the softmax, the context), each stage being the program's own operations; `res_stages` says that the term the
  reference's run ends with is these stages, and `refOut_spec` reads it at an index over the extended reals.
-/
module

public import proofs.«01_k».proof.Proof.Gen.ReferenceIdeal.Run
public import proofs.«01_k».proof.Proof.Spec
public import Idealize.ShloMosaic.Lib.Pointwise

@[expose] public section

set_option maxRecDepth 16384

noncomputable section

namespace Cert.GatherAttn.Ref

open Cert.ReferenceIdeal Cert.ReferenceIdeal.Gen
open Idealize.ShloMosaic Idealize.ShloMosaic.TcCoe

variable {F : FTy → Type} [FloatOps F]

/-! ## The stages -/

/-- The scalar `w` at each of the 128 positions. -/
def splat (w : BitVec 32) : IVec S128 32 := broadcastInDim S128 ![] bcast_S_S128 (constantI S_ 32 w)

/-- The block of 64 positions that each of the 128 lies in: a floor division. -/
def blk : IVec S128 32 :=
  select
    (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32)))) (splat 0#32)))
    (subi (Host.divsi (iotaInDim S128 32 0) (broadcastInDim S128 ![] bcast_S_S128 (id (constantI S_ 32 64#32)))) (splat 1#32))
    (Host.divsi (iotaInDim S128 32 0) (broadcastInDim S128 ![] bcast_S_S128 (id (constantI S_ 32 64#32))))

/-- The divisor of the remainders: 4, or 1 if that were zero. -/
def four : IVec S_ 32 := select (cmpi .eq (id (constantI S_ 32 4#32)) (constantI S_ 32 0#32)) (constantI S_ 32 1#32) (id (constantI S_ 32 4#32))

/-- The floor remainder by 4 of a row of blocks. -/
def remRow (b : IVec S1x128 32) : IVec S1x128 32 :=
  let r : IVec S1x128 32 := Host.remsi b (broadcastInDim S1x128 ![] bcast_S_S1x128 four)
  select
    (andi (cmpi .ne (cmpi .slt r (broadcastInDim S1x128 ![] bcast_S_S1x128 (constantI S_ 32 0#32)))
        (broadcastInDim S1x128 ![] bcast_S_S1x128 (cmpi .slt four (constantI S_ 32 0#32))))
      (cmpi .ne r (broadcastInDim S1x128 ![] bcast_S_S1x128 (constantI S_ 32 0#32))))
    (addi r (broadcastInDim S1x128 ![] bcast_S_S1x128 four)) r

/-- The floor remainder by 4 of a column of blocks. -/
def remCol (b : IVec S128x1 32) : IVec S128x1 32 :=
  let r : IVec S128x1 32 := Host.remsi b (broadcastInDim S128x1 ![] bcast_S_S128x1 four)
  select
    (andi (cmpi .ne (cmpi .slt r (broadcastInDim S128x1 ![] bcast_S_S128x1 (constantI S_ 32 0#32)))
        (broadcastInDim S128x1 ![] bcast_S_S128x1 (cmpi .slt four (constantI S_ 32 0#32))))
      (cmpi .ne r (broadcastInDim S128x1 ![] bcast_S_S128x1 (constantI S_ 32 0#32))))
    (addi r (broadcastInDim S128x1 ![] bcast_S_S128x1 four)) r

/-- The mask from the blocks of the queries (a column) and of the keys (a row): the same block, or the same remainder. -/
def maskOf (b : IVec S128x1 32) (b' : IVec S1x128 32) : IVec S128x128 1 :=
  ori
    (cmpi .eq (broadcastInDim S128x128 ![0, 1] bcast_S128x1_S128x128_0_1 b) (broadcastInDim S128x128 ![0, 1] bcast_S1x128_S128x128_0_1 b'))
    (cmpi .eq (broadcastInDim S128x128 ![0, 1] bcast_S1x128_S128x128_0_1 (remRow b')) (broadcastInDim S128x128 ![0, 1] bcast_S128x1_S128x128_0_1 (remCol b)))

/-- The reference's mask: which key positions a query position may read. -/
def mask : IVec S128x128 1 := maskOf (broadcastInDim S128x1 ![0] bcast_S128_S128x1_0 blk) (broadcastInDim S1x128 ![1] bcast_S128_S1x128_1 blk)

/-- The rows of the mask that are not empty. -/
def keep : IVec S128 1 := Host.reduce IntOp.ori mask (constantI S_ 1 0#1) reducesTo_S128x128_S128_d1 h_S_

/-- The queries of all sixteen heads. -/
def queries (x : FVec F S2x128x512 .bf16) (wq : FVec F S512x1024 .bf16) : FVec F S2x128x16x64 .f32 :=
  shapeCast _ (Host.dotGeneral dot_S2x128x512_S512x1024_S2x128x1024_2_0_01_1_n_n none (extf .f32 x bitsLt_bf16_f32) (extf .f32 wq bitsLt_bf16_f32))
    shapeCasts_S2x128x1024_S2x128x16x64

/-- The scaled and masked scores. -/
def scores (q k : FVec F S2x128x16x64 .f32) : FVec F S2x16x128x128 .f32 :=
  select (broadcastInDim S2x16x128x128 ![0, 1, 2, 3] bcast_S1x1x128x128_S2x16x128x128_0_1_2_3 (broadcastInDim S1x1x128x128 ![2, 3] bcast_S128x128_S1x1x128x128_2_3 mask))
    (mulf (Host.dotGeneral dot_S2x128x16x64_S2x128x16x64_S2x16x128x128_3_3_1_1_02_02 none q k)
      (broadcastInDim S2x16x128x128 ![] bcast_S_S2x16x128x128 (constant S_ .f32 0x3E000000#32)))
    (broadcastInDim S2x16x128x128 ![] bcast_S_S2x16x128x128 (id (constant S_ .f32 0xCE6E6B28#32)))

/-- The exponentials of the scores less their row's largest. -/
def weights (s : FVec F S2x16x128x128 .f32) : FVec F S2x16x128x128 .f32 :=
  Host.exp (subf s (broadcastInDim S2x16x128x128 ![0, 1, 2, 3] bcast_S2x16x128x1_S2x16x128x128_0_1_2_3
    (broadcastInDim S2x16x128x1 ![0, 1, 2] bcast_S2x16x128_S2x16x128x1_0_1_2
      (Host.reduce FloatOps.maximumf s (constant S_ .f32 0xFF800000#32) reducesTo_S2x16x128x128_S2x16x128_d3 h_S_))))

/-- The row sums of the weights, 1 where the mask's row is empty. -/
def totals (w : FVec F S2x16x128x128 .f32) : FVec F S2x16x128x1 .f32 :=
  select (broadcastInDim S2x16x128x1 ![0, 1, 2, 3] bcast_S1x1x128x1_S2x16x128x1_0_1_2_3 (broadcastInDim S1x1x128x1 ![2] bcast_S128_S1x1x128x1_2 keep))
    (broadcastInDim S2x16x128x1 ![0, 1, 2] bcast_S2x16x128_S2x16x128x1_0_1_2
      (Host.reduceAdd w (constant S_ .f32 0x00000000#32) reducesTo_S2x16x128x128_S2x16x128_d3 h_S_))
    (broadcastInDim S2x16x128x1 ![] bcast_S_S2x16x128x1 (id (constant S_ .f32 0x3F800000#32)))

/-- The softmax of the weights, 0 where the mask's row is empty. -/
def probs (w : FVec F S2x16x128x128 .f32) : FVec F S2x16x128x128 .f32 :=
  select (broadcastInDim S2x16x128x128 ![0, 1, 2, 3] bcast_S1x1x128x1_S2x16x128x128_0_1_2_3 (broadcastInDim S1x1x128x1 ![2] bcast_S128_S1x1x128x1_2 keep))
    (Host.divf w (broadcastInDim S2x16x128x128 ![0, 1, 2, 3] bcast_S2x16x128x1_S2x16x128x128_0_1_2_3 (totals w)))
    (broadcastInDim S2x16x128x128 ![] bcast_S_S2x16x128x128 (id (constant S_ .f32 0x00000000#32)))

/-- The context: the weighted values, the heads side by side in the columns. -/
def context (p : FVec F S2x16x128x128 .f32) (v : FVec F S2x128x16x64 .f32) : FVec F S2x128x1024 .f32 :=
  shapeCast _ (transpose S2x128x16x64 [0, 3, 1, 2]
    (Host.dotGeneral dot_S2x128x16x64_S2x16x128x128_S2x16x64x128_1_3_3_2_02_01 none v p) transposes_S2x16x64x128_S2x128x16x64_0_3_1_2)
    shapeCasts_S2x128x16x64_S2x128x1024

/-- The reference's result from its five arguments. -/
def refOut (x : FVec F S2x128x512 .bf16) (wq : FVec F S512x1024 .bf16) (k v : FVec F S2x128x16x64 .bf16) (wo : FVec F S1024x512 .bf16) :
    FVec F S2x128x512 .f32 :=
  Host.dotGeneral dot_S2x128x1024_S1024x512_S2x128x512_2_0_01_1_n_n none
    (context (probs (weights (scores (queries x wq) (extf .f32 k bitsLt_bf16_f32)))) (extf .f32 v bitsLt_bf16_f32))
    (extf .f32 wo bitsLt_bf16_f32)

/-- The term that the reference's run ends with is these stages over the launch contents of its arguments. -/
theorem res_stages (m : (ℓ : Loc nD τ sig) → Buf (Elt F) ℓ) (c : Dev nD) :
    Value.res_main_v44 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## The mask -/

/-- Position `i` lies in block `i / 64`. -/
theorem blk_at : ∀ i : Fin 128, blk (ix1 i) = BitVec.ofNat 32 (i.val / 64) := by decide +kernel

/-- With two blocks only, the mask says that the two blocks are one. -/
theorem maskOf_at : ∀ a b : Fin 2, maskOf (fun _ => BitVec.ofNat 32 a.val) (fun _ => BitVec.ofNat 32 b.val) (ix2 0 0)
    = if a.val = b.val then 1#1 else 0#1 := by decide +kernel

/-- The reference's mask at an index. -/
theorem mask_at (i j : Fin 128) : mask (ix2 i j) = if i.val / 64 = j.val / 64 then 1#1 else 0#1 := by
  have h : mask (ix2 i j) = maskOf (fun _ => blk (ix1 i)) (fun _ => blk (ix1 j)) (ix2 0 0) := by
    have e (b : IVec S128x1 32) (b' : IVec S1x128 32) : maskOf b b' (ix2 i j) = maskOf (fun _ => b (ix2 i 0)) (fun _ => b' (ix2 0 j)) (ix2 0 0) := by
      pointwise [maskOf, remRow, remCol]
    unfold mask
    rw [e]
    pointwise
  rw [h, blk_at, blk_at]
  exact maskOf_at ⟨i.val / 64, by have := i.isLt; omega⟩ ⟨j.val / 64, by have := j.isLt; omega⟩

/-- A fold of the bitwise or over bits one of which is set is set. -/
theorem fold_ori {n : ℕ} (f : Fin n → BitVec 1) (i : Fin n) (h : f i = 1#1) : Finset.fold IntOp.ori 0#1 f Finset.univ = 1#1 := by
  rw [← Finset.insert_erase (Finset.mem_univ i), Finset.fold_insert (Finset.notMem_erase i _), h]
  generalize Finset.fold IntOp.ori 0#1 f _ = x
  revert x; decide

/-- No row of the mask is empty: a position may read itself. -/
theorem keep_at (i : Fin 128) : keep (ix1 i) = 1#1 := by
  pointwise [keep]
  exact fold_ori _ i (by rw [mask_at, if_pos rfl])

/-! ## The stages at an index, over the extended reals -/

/-- A query's element: the row of the input against the head's column of the weights. -/
theorem queries_at (x : FVec Ideal S2x128x512 .bf16) (wq : FVec Ideal S512x1024 .bf16) (b : Fin 2) (i : Fin 128) (h : Fin 16) (d : Fin 64) :
    queries x wq (ix4 b i h d) = ∑ t : Fin 512, x (ix3 b i t) * wq (ix2 t ⟨h.val * 64 + d.val, by omega⟩) := by
  pointwise [queries]

/-- A score: inside the mask the scaled product of the query and the key, outside it the large negative constant. -/
theorem scores_at (q k : FVec Ideal S2x128x16x64 .f32) (b : Fin 2) (h : Fin 16) (i j : Fin 128) :
    scores q k (ix4 b h i j) = Scalar.select (mask (ix2 i j)) ((∑ d : Fin 64, q (ix4 b i h d) * k (ix4 b j h d)) * Ideal.ofBits FTy.f32 0x3E000000#32)
      (Ideal.ofBits FTy.f32 0xCE6E6B28#32) := by
  pointwise [scores]
  rfl

/-- A weight: the exponential of the score less the row's largest. -/
theorem weights_at (s : FVec Ideal S2x16x128x128 .f32) (b : Fin 2) (h : Fin 16) (i j : Fin 128) :
    weights s (ix4 b h i j)
      = Ideal.exp (s (ix4 b h i j) - Finset.fold max (Ideal.ofBits FTy.f32 0xFF800000#32) (fun l => s (ix4 b h i l)) Finset.univ) := by
  pointwise [weights]

/-- A probability: the weight over the row's sum. -/
theorem probs_at (w : FVec Ideal S2x16x128x128 .f32) (b : Fin 2) (h : Fin 16) (i j : Fin 128) :
    probs w (ix4 b h i j) = Ideal.div (w (ix4 b h i j)) (∑ l : Fin 128, w (ix4 b h i l)) := by
  pointwise [probs, totals]
  rw [keep_at]
  rfl

/-- The context: the head of column `n` is `n / 64`. -/
theorem context_at (p : FVec Ideal S2x16x128x128 .f32) (v : FVec Ideal S2x128x16x64 .f32) (b : Fin 2) (i : Fin 128) (n : Fin 1024) :
    context p v (ix3 b i n) = ∑ j : Fin 128, v (ix4 b j ⟨n.val / 64, by omega⟩ ⟨n.val % 64, by omega⟩) * p (ix4 b ⟨n.val / 64, by omega⟩ i j) := by
  pointwise [context]

/-- The result: the context's row against the output weights' column. -/
theorem refOut_at (x : FVec Ideal S2x128x512 .bf16) (wq : FVec Ideal S512x1024 .bf16) (k v : FVec Ideal S2x128x16x64 .bf16) (wo : FVec Ideal S1024x512 .bf16)
    (b : Fin 2) (i : Fin 128) (o : Fin 512) :
    refOut x wq k v wo (ix3 b i o)
      = ∑ n : Fin 1024, context (probs (weights (scores (queries x wq) (extf .f32 k bitsLt_bf16_f32)))) (extf .f32 v bitsLt_bf16_f32) (ix3 b i n) * wo (ix2 n o) := by
  pointwise [refOut]

/-- The reference's result at an index is the specification's. -/
theorem refOut_spec (x : FVec Ideal S2x128x512 .bf16) (wq : FVec Ideal S512x1024 .bf16) (k v : FVec Ideal S2x128x16x64 .bf16) (wo : FVec Ideal S1024x512 .bf16)
    (b : Fin 2) (i : Fin 128) (o : Fin 512) : refOut x wq k v wo (ix3 b i o) = Spec.result x wq k v wo b i o := by
  rw [refOut_at]
  refine Finset.sum_congr rfl fun n _ => congrArg (· * wo (ix2 n o)) ?_
  simp only [context_at, probs_at, weights_at, scores_at, queries_at, mask_at]
  exact Finset.sum_congr rfl fun j _ => mul_comm _ _

end Cert.GatherAttn.Ref

end
-- ==== Proof.Value.lean ====
/-
  The KERNEL's result read at an index over the extended reals: `result_spec` says that every device's result is the
  specification of Spec.lean over the whole arrays that the devices' arguments are blocks of.
-/
module

public import proofs.«01_k».proof.Proof.Launch
public import proofs.«01_k».proof.Proof.Spec
public import Idealize.ShloMosaic.Lib.Pointwise
public import Idealize.ShloMosaic.Lib.LayoutAt

@[expose] public section

set_option maxRecDepth 16384

noncomputable section

namespace Cert.GatherAttn

open Cert.KernelIdeal Cert.KernelIdeal.Gen
open Idealize.ShloMosaic Idealize.ShloMosaic.TcCoe Idealize.ShloMosaic.StableHlo

/-! ## The mask -/

/-- Row `i` of the mask belongs to the block `i / 64`. -/
theorem rowBlock_at : ∀ i : Fin 128, k0_pay1 (ix2 i 0) = BitVec.ofNat 32 (i.val / 64) := by decide +kernel

/-- The mask's last step at a row of block `a`: the column's block is the same one. -/
theorem maskOf_at : ∀ a : Fin 2, ∀ j : Fin 128,
    k0_pay4 (fun _ => BitVec.ofNat 32 a.val) (fun _ => BitVec.ofNat 32 j.val) 64#32 (fun _ => k0_pay2 (ix2 0 j)) (fun _ => k0_pay3 (ix2 0 j)) (ix2 0 0)
      = if a.val = j.val / 64 then 1#1 else 0#1 := by decide +kernel

/-- The mask's last step works entry by entry. -/
theorem pay4_entry (v27 v28 : IVec S128x128 32) (c : BitVec 32) (v30 : IVec S128x128 32) (v44 : IVec S128x128 1) (p : S128x128.Idx) :
    k0_pay4 v27 v28 c v30 v44 p = k0_pay4 (fun _ => v27 p) (fun _ => v28 p) c (fun _ => v30 p) (fun _ => v44 p) (ix2 0 0) := by pointwise [k0_pay4]

/-- The rows' blocks do not depend on the column … -/
theorem pay1_row (i j : Fin 128) : k0_pay1 (ix2 i j) = k0_pay1 (ix2 i 0) := by pointwise [k0_pay1]
/-- … nor the columns' quotients on the row, … -/
theorem pay2_col (i j : Fin 128) : k0_pay2 (ix2 i j) = k0_pay2 (ix2 0 j) := by pointwise [k0_pay2]
/-- … nor their signs' comparison, … -/
theorem pay3_col (i j : Fin 128) : k0_pay3 (ix2 i j) = k0_pay3 (ix2 0 j) := by pointwise [k0_pay3]
/-- … and the column's number is the column. -/
theorem iota_col (i j : Fin 128) : iota .tc S128x128 32 [1] iota_S128x128_d1_w32 (ix2 i j) = BitVec.ofNat 32 j.val := by pointwise

/-- The kernel's mask at an index: the two positions lie in one block of 64. -/
theorem mask_at (i j : Fin 128) : mask (ix2 i j) = if i.val / 64 = j.val / 64 then 1#1 else 0#1 := by
  unfold mask
  rw [pay4_entry, pay1_row, pay2_col, pay3_col, iota_col, rowBlock_at]
  exact maskOf_at ⟨i.val / 64, by have := i.isLt; omega⟩ j

/-! ## The host operations around the kernel -/

section Host

variable {F : FTy → Type} [FloatOps F]
variable (m : (ℓ : Loc nD τ sig) → Buf (Elt F) ℓ)

/-- A device's transposed keys. -/
theorem V1_v12 (c : Dev nD) : V1 m c main_v12 = transpose S2x4x64x128 [0, 2, 3, 1] (m ((c : Thread nD τ).loc main_arg2)) transposes_S2x128x4x64_S2x4x64x128_0_2_3_1 := by
  unfold V1
  after_results_simp

/-- A device's transposed values. -/
theorem V1_v13 (c : Dev nD) : V1 m c main_v13 = transpose S2x4x64x128 [0, 2, 3, 1] (m ((c : Thread nD τ).loc main_arg3)) transposes_S2x128x4x64_S2x4x64x128_0_2_3_1 := by
  unfold V1
  after_results_simp

/-- Where a device's columns of the query weights start: column 256 c. -/
theorem start_word : ∀ c : Dev nD, BitVec.toInt (select
      (cmpi CmpIPredicate.slt (muli (id (Host.remui (Host.divui (constantI S_ 32 (Dev.word c)) (constantI S_ 32 1#32)) (constantI S_ 32 4#32))) (constantI S_ 32 256#32)) (constantI S_ 32 0#32))
      (addi (muli (id (Host.remui (Host.divui (constantI S_ 32 (Dev.word c)) (constantI S_ 32 1#32)) (constantI S_ 32 4#32))) (constantI S_ 32 256#32)) (constantI S_ 32 1024#32))
      (muli (id (Host.remui (Host.divui (constantI S_ 32 (Dev.word c)) (constantI S_ 32 1#32)) (constantI S_ 32 4#32))) (constantI S_ 32 256#32)) (Shape.Idx.first h_S_))
    = 256 * (c.val : Int) := by decide +kernel

/-- A device's queries: its input against its 256 columns of the query weights. -/
theorem V1_v11 (c : Dev nD) : V1 m c main_v11 = truncf .bf16 (Host.dotGeneral dot_S2x128x512_S512x256_S2x128x256_2_0_01_1_n_n none (m ((c : Thread nD τ).loc main_arg0))
   (Host.dynamicSlice S512x256 (m ((c : Thread nD τ).loc main_arg1)) ![0, 256 * c.val] sliceFits_S512x1024_S512x256)) bitsLt_bf16_f32 := by
  unfold V1
  after_results_simp
  refine congrArg (fun st => truncf .bf16 (Host.dotGeneral dot_S2x128x512_S512x256_S2x128x256_2_0_01_1_n_n none (m ((c : Thread nD τ).loc main_arg0))
   (Host.dynamicSlice S512x256 (m ((c : Thread nD τ).loc main_arg1)) st sliceFits_S512x1024_S512x256)) bitsLt_bf16_f32) (funext fun k => ?_)
  match k with
  | 0 =>
    dsimp only [Matrix.cons_val_zero]
    after_results_simp
    rfl
  | 1 =>
    dsimp only [Matrix.cons_val_one, Matrix.cons_val_zero]
    after_results_simp
    exact start_word c

/-- A device's result: the gathered contexts against the output weights. -/
theorem V3_v15 (c : Dev nD) : V3 m (outs m) c main_v15 = Host.dotGeneral dot_S2x128x1024_S1024x512_S2x128x512_2_0_01_1_n_n none (G m) (m ((c : Thread nD τ).loc main_arg4)) := by
  unfold V3
  after_results_simp
  rw [show V2 m (outs m) c (Proc.tc.devRef main_v14) = G m from V2_v14 m c,
    show V2 m (outs m) c (Proc.tc.devRef main_arg4) = m ((c : Thread nD τ).loc main_arg4) from (V2_of m (outs m) c main_arg4 (by decide)).trans (V1_of m c main_arg4 (by decide))]

end Host

/-! ## The layout of the devices' arrays -/

/-- Head `h` of device `c`'s transposed block of the keys or values is head `4 c + h` of the whole array. -/
theorem heads_at (K : FVec Ideal ⟨4, ![2, 128, 16, 64]⟩ .bf16) (c : Dev nD) (b : Fin 2) (h : Fin 4) (d : Fin 64) (j : Fin 128) (h' : Fin 16) (e : h'.val = 4 * c.val + h.val)  :
    transpose S2x4x64x128 [0, 2, 3, 1] (Layout.block ⟨4, ![2, 128, 4, 64]⟩ ⟨4, ![2, 128, 16, 64]⟩ 2 4 c K) transposes_S2x128x4x64_S2x4x64x128_0_2_3_1 (ix4 b h d j)
     = K (ix4 b j h' d) := by
  pointwise
  shard_ext

/-- The slice of the weights starts where it says: it fits. -/
theorem start_val (c : Dev nD) : ∀ a : Fin 2, Host.clampedStart S512x1024 S512x256 sliceFits_S512x1024_S512x256.1 ![0, 256 * (c.val : Int)] a = ![0, 256 * c.val] a := by
  revert c; decide

/-- Column `n` of device `c`'s queries is column `256 c + n` of all the queries. -/
theorem slice_at (x : FVec Ideal S2x128x512 .bf16) (w : FVec Ideal S512x1024 .bf16) (c : Dev nD) (b : Fin 2) (i : Fin 128) (n : Fin 256)  (n' : Fin 1024) (e : n'.val = 256 * c.val + n.val) :
   truncf .bf16 (Host.dotGeneral dot_S2x128x512_S512x256_S2x128x256_2_0_01_1_n_n none x
   (Host.dynamicSlice S512x256 w ![0, 256 * c.val] sliceFits_S512x1024_S512x256)) bitsLt_bf16_f32 (ix3 b i n) = ∑ t : Fin 512, x (ix3 b i t) * w (ix2 t n') := by
  pointwise
  refine Finset.sum_congr rfl fun t _ => congrArg (x (ix3 b i t) * w ·) ?_
  have h0 := start_val c 0
  have h1 := start_val c 1
  refine funext fun a => match a with
    | 0 => Fin.ext ?_
    | 1 => Fin.ext ?_
  · show Host.clampedStart _ _ _ _ 0 + t.val = t.val
    rw [h0]; simp
  · show Host.clampedStart _ _ _ _ 1 + n.val = n'.val
    rw [h1, e]; simp

/-! ## The heads -/

/-- One head of the kernel at an index, its keys and values read through their transposition. -/
theorem attnHead_at (q : FVec Ideal S128x64 .bf16) (k v : FVec Ideal S64x128 .bf16) (i : Fin 128) (d : Fin 64) :
    attnHead mask q k v (ix2 i d) = Spec.head (fun i d => q (ix2 i d)) (fun j d => k (ix2 d j)) (fun j d => v (ix2 d j)) i d := by
  pointwise [attnHead]
  simp only [mask_at]
  rfl

variable (m : (ℓ : Loc nD τ sig) → Buf (Elt Ideal) ℓ)
variable (x : FVec Ideal S2x128x512 .bf16) (wq : FVec Ideal S512x1024 .bf16) (k v : FVec Ideal ⟨4, ![2, 128, 16, 64]⟩ .bf16) (wo : FVec Ideal S1024x512 .bf16)

/-- The devices' arguments are the whole input and weights, and their blocks of four heads of the keys and values. -/
structure Args : Prop where
  x : ∀ c : Dev nD, m ((c : Thread nD τ).loc main_arg0) = x
  wq : ∀ c : Dev nD, m ((c : Thread nD τ).loc main_arg1) = wq
  k : ∀ c : Dev nD, m ((c : Thread nD τ).loc main_arg2) = Layout.block ⟨4, ![2, 128, 4, 64]⟩ ⟨4, ![2, 128, 16, 64]⟩ 2 4 c k
  v : ∀ c : Dev nD, m ((c : Thread nD τ).loc main_arg3) = Layout.block ⟨4, ![2, 128, 4, 64]⟩ ⟨4, ![2, 128, 16, 64]⟩ 2 4 c v
  wo : ∀ c : Dev nD, m ((c : Thread nD τ).loc main_arg4) = wo

variable {m x wq k v wo}

/-- Head `h` of device `c` is head `4 c + h` of the specification. -/
theorem headVal_spec (A : Args m x wq k v wo) (c : Dev nD) (b : Fin 2) (h : Fin 4) (h' : Fin 16) (e : h'.val = 4 * c.val + h.val) (i : Fin 128) (d : Fin 64) :
    (headVal (F := Ideal) (V1 m c main_v11) (V1 m c main_v12) (V1 m c main_v13) b h : FVec Ideal S128x64 .bf16) (ix2 i d) = Spec.headOf x wq k v b h' i d := by
  unfold headVal
  rw [attnHead_at]
  have eq : (fun (i : Fin 128) (d : Fin 64) => (V1 m c main_v11 : FVec Ideal S2x128x256 .bf16) (ix3 b i ⟨64 * h.val + d.val, by omega⟩))
      = Spec.query x wq b h' := by
    funext i d
    rw [V1_v11, A.x, A.wq]
    exact slice_at x wq c b i ⟨64 * h.val + d.val, by omega⟩ ⟨h'.val * 64 + d.val, by omega⟩ (by simp only; omega)
  have ek : (fun (j : Fin 128) (d : Fin 64) => (V1 m c main_v12 : FVec Ideal S2x4x64x128 .bf16) (ix4 b h d j)) = fun j d => k (ix4 b j h' d) := by
    funext j d
    rw [V1_v12, A.k]
    exact heads_at k c b h d j h' e
  have ev : (fun (j : Fin 128) (d : Fin 64) => (V1 m c main_v13 : FVec Ideal S2x4x64x128 .bf16) (ix4 b h d j)) = fun j d => v (ix4 b j h' d) := by
    funext j d
    rw [V1_v13, A.v]
    exact heads_at v c b h d j h' e
  unfold Spec.headOf
  rw [← eq, ← ek, ← ev]
  rfl

/-- The gathered array at an index: column `n` is column `n % 64` of head `n / 64`. -/
theorem G_spec (A : Args m x wq k v wo) (b : Fin 2) (i : Fin 128) (n : Fin 1024) :
    G m (ix3 b i n) = Spec.headOf x wq k v b ⟨n.val / 64, by omega⟩ i ⟨n.val % 64, Nat.mod_lt _ (by decide)⟩ := by
  have l := n.isLt
  unfold G
  rw [gathered_at (ctx m) (ix3 b i n) ⟨n.val / 256, by show _ < 4; omega⟩ (ix2 ⟨128 * b.val + i.val, by omega⟩ ⟨n.val % 256, by omega⟩) rfl rfl rfl]
  unfold ctx
  rw [localCtx_at _ _ _ _ b ⟨n.val % 256 / 64, by omega⟩ (ix2 i ⟨n.val % 64, by omega⟩) rfl (by show n.val % 256 = 64 * (n.val % 256 / 64) + n.val % 64; omega)]
  exact headVal_spec A ⟨n.val / 256, by show _ < 4; omega⟩ b ⟨n.val % 256 / 64, by omega⟩ ⟨n.val / 64, by omega⟩
    (by show n.val / 64 = 4 * (n.val / 256) + n.val % 256 / 64; omega) i ⟨n.val % 64, by omega⟩

/-- The last product at an index. -/
theorem out_at (g : FVec Ideal S2x128x1024 .bf16) (wo : FVec Ideal S1024x512 .bf16) (b : Fin 2) (i : Fin 128) (o : Fin 512) :
    (Host.dotGeneral dot_S2x128x1024_S1024x512_S2x128x512_2_0_01_1_n_n none g wo : FVec Ideal S2x128x512 .f32) (ix3 b i o)
      = ∑ n : Fin 1024, g (ix3 b i n) * wo (ix2 n o) := by
  pointwise

/-- Every device's result at an index is the specification's. -/
theorem result_spec (A : Args m x wq k v wo) (c : Dev nD) (b : Fin 2) (i : Fin 128) (o : Fin 512) :
    (V3 m (outs m) c main_v15 : FVec Ideal S2x128x512 .f32) (ix3 b i o) = Spec.result x wq k v wo b i o := by
  rw [V3_v15, A.wo]
  refine (out_at (G m) wo b i o).trans ?_
  exact Finset.sum_congr rfl fun n _ => congrArg (· * wo (ix2 n o)) (G_spec A b i n)

end Cert.GatherAttn

end
-- ==== Proof.lean ====
/-
  The proof of `Cert.Claim`: the frames of the two kernel programs and of the reference, and the equality over the
  extended reals of what every device ends with and what the reference ends with.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Reference
public import proofs.«01_k».proof.Proof.Value
public import Idealize.ShloMosaic.Adequacy
public import Idealize.ShloMosaic.Init

@[expose] public section

set_option maxRecDepth 65536

noncomputable section

namespace Cert.Proof

open Idealize.ShloMosaic Idealize.SL.Sem Cert.Kernel

/-- The two programs' kernels are one text: their body tables are equal, label by label. -/
theorem bodies_eq : Cert.Kernel.defs₀ (F := Bits) = Cert.KernelIdeal.defs₀ (F := Bits) :=
  congrArg (Defs.onTc (nD := Cert.Kernel.nD) (τ := Cert.Kernel.τ) (sig := Cert.Kernel.sig) (Val := Elt Bits) (Λ := Cert.Kernel.Λ₀))
    (funext fun ℓ => funext fun a => match ℓ, a with | 0, (t, s) => rfl)

/-- And so are the tables with the pipelines' labels. -/
theorem defs_eq : Cert.Kernel.defs (F := Bits) = Cert.KernelIdeal.defs (F := Bits) :=
  congrArg (Pipeline.defs (Cert.Kernel.pcfgs (F := Bits))) bodies_eq

/-- The kernel's frame: its text is the idealized kernel's, whose run holds over any float values. -/
theorem frame_kernel : Cert.quiescent_Kernel := fun m ρ _ => by
  have h := Cert.GatherAttn.run_frame (F := Bits) m ρ
  rw [← defs_eq] at h
  exact h

/-- The idealized kernel's frame. -/
theorem frame_kernel_ideal : Cert.quiescent_KernelIdeal := fun m ρ _ =>
  Cert.GatherAttn.run_frame (F := Ideal) m ρ

/-- The reference's frame: it declares no semaphore. -/
theorem frame_reference : Cert.quiescent_ReferenceIdeal := fun m ρ _ =>
  (θ_run Cert.ReferenceIdeal.defs _ _).mono
    (fun r h => ⟨fun c => (h c).2, sem_eq_zero_of_no_sems rfl r.2⟩) (Cert.ReferenceIdeal.Value.run (F := Ideal) m ρ)

/-- The two kernel programs are one text: no rewrite is claimed. -/
theorem preserves : Cert.preserves_Kernel_KernelIdeal := trivial

/-- Over the extended reals every device ends with the reference's whole result. -/
theorem algebraic : Cert.algebraic_KernelIdeal_ReferenceIdeal := fun m ρ m' ρ' _ hargs => by
  have A : Cert.GatherAttn.Args m
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c => (hargs c).1, fun c => (hargs c).2.1, fun c => (hargs c).2.2.1, fun c => (hargs c).2.2.2.1, fun c => (hargs c).2.2.2.2⟩
  refine ⟨Cert.ReferenceIdeal.Value.res_main_v44 m' 0, ?_, ?_⟩
  · refine (θ_run Cert.KernelIdeal.defs _ _).mono (fun _ h c => ⟨((h.1 c).1).trans ?_, (h.1 c).2⟩) (Cert.GatherAttn.run_main (F := Ideal) m ρ)
    rw [Cert.GatherAttn.Ref.res_stages]
    funext j
    have e : j = ix3 (j 0) (j 1) (j 2) := funext fun a => match a with | 0 => rfl | 1 => rfl | 2 => rfl
    rw [e]
    exact (Cert.GatherAttn.result_spec A c (j 0) (j 1) (j 2)).trans (Cert.GatherAttn.Ref.refOut_spec _ _ _ _ _ (j 0) (j 1) (j 2)).symm
  · exact (θ_run Cert.ReferenceIdeal.defs _ _).mono (fun _ h => h 0) (Cert.ReferenceIdeal.Value.run (F := Ideal) m' ρ')

/-- Everything the certificate claims. -/
theorem claim : Cert.Claim :=
  ⟨Cert.Kernel.Gen.facts, Cert.KernelIdeal.Gen.facts, Cert.ReferenceIdeal.Gen.facts,
    frame_kernel, frame_kernel_ideal, frame_reference, preserves, algebraic⟩

end Cert.Proof

end
